-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_fts [hPre_finite_fts : Cert.Pre_finite_fts.Facts] (m : (ℓ : Loc Cert.KernelIdeal.nD Cert.KernelIdeal.τ Cert.KernelIdeal.sig) → Buf (Elt Ideal) ℓ) : Prop :=
  ∀ c : Dev Cert.KernelIdeal.nD,
    (Cert.Pre_finite_fts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_fts [hPre_finite_fts : Cert.Pre_finite_fts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_fts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_fts [hKernelIdeal : Cert.KernelIdeal.Facts] [hPre_finite_fts : Cert.Pre_finite_fts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_fts m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_fts [hReferenceIdeal : Cert.ReferenceIdeal.Facts] [hPre_finite_fts : Cert.Pre_finite_fts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_fts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite_fts [hKernelIdeal : Cert.KernelIdeal.Facts] [hReferenceIdeal : Cert.ReferenceIdeal.Facts] [hPre_finite_fts : Cert.Pre_finite_fts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_fts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite_fts : Cert.Pre_finite_fts.Facts),
    quiescent_KernelIdeal (hKernelIdeal := hKernelIdeal)
    ∧ quiescent_KernelIdeal_pre_finite_fts (hKernelIdeal := hKernelIdeal) (hPre_finite_fts := hPre_finite_fts)
    ∧ quiescent_ReferenceIdeal (hReferenceIdeal := hReferenceIdeal)
    ∧ quiescent_ReferenceIdeal_pre_finite_fts (hReferenceIdeal := hReferenceIdeal) (hPre_finite_fts := hPre_finite_fts)
    ∧ algebraic_KernelIdeal_ReferenceIdeal_pre_finite_fts (hKernelIdeal := hKernelIdeal) (hReferenceIdeal := hReferenceIdeal) (hPre_finite_fts := hPre_finite_fts)
-- ==== Pre_finite_fts.lean ====
abbrev S4x4096x3 : Shape := ⟨3, ![4, 4096, 3]⟩
abbrev S4x32x3x4096 : Shape := ⟨4, ![4, 32, 3, 4096]⟩
abbrev S_ : Shape := ⟨0, ![]⟩

class Facts : Prop where
  bcast_S_S4x32x3x4096 : S_.BroadcastsInDim S4x32x3x4096 (![] : Fin 0 → Fin S4x32x3x4096.rank)
  reducesTo_S4x32x3x4096_S_d0_1_2_3 : S4x32x3x4096.ReducesTo [0, 1, 2, 3] S_
  h_S_ : 0 < S_.numel

variable [Facts]

def fn {F : FTy → Type} [FloatOps F] (main_arg0 : FVec F S4x4096x3 .f32) (main_arg1 : FVec F S4x32x3x4096 .f32) : IVec S_ 1 :=
  let main_v0 : FVec F S4x32x3x4096 .f32 := Host.absf main_arg1
  let main_cst : FVec F S_ .f32 := constant S_ .f32 0x7F800000#32
  let main_v1 : FVec F S4x32x3x4096 .f32 := broadcastInDim S4x32x3x4096 ![] bcast_S_S4x32x3x4096 main_cst
  let main_v2 : IVec S4x32x3x4096 1 := cmpf .olt main_v0 main_v1
  let main_c : IVec S_ 1 := constantI S_ 1 1#1
  let main_v3 : IVec S_ 1 := (fun x v => Host.reduce IntOp.andi x v reducesTo_S4x32x3x4096_S_d0_1_2_3 h_S_) main_v2 main_c
  main_v3
-- ==== KernelIdeal.lean ====
abbrev S4x4096x3 : Shape := ⟨3, ![4, 4096, 3]⟩
abbrev S4x32x3x4096 : Shape := ⟨4, ![4, 32, 3, 4096]⟩
abbrev S4x96x4096 : Shape := ⟨3, ![4, 96, 4096]⟩
abbrev S4x4096x96 : Shape := ⟨3, ![4, 4096, 96]⟩
abbrev S_ : Shape := ⟨0, ![]⟩
abbrev S4x4096x32 : Shape := ⟨3, ![4, 4096, 32]⟩
abbrev S4x4096x128 : Shape := ⟨3, ![4, 4096, 128]⟩
abbrev S4x128x4096 : Shape := ⟨3, ![4, 128, 4096]⟩
abbrev S1x256x128 : Shape := ⟨3, ![1, 256, 128]⟩
abbrev S1x128x4096 : Shape := ⟨3, ![1, 128, 4096]⟩
abbrev S1x256x32 : Shape := ⟨3, ![1, 256, 32]⟩
abbrev S256x4096 : Shape := ⟨2, ![256, 4096]⟩
abbrev S256x128 : Shape := ⟨2, ![256, 128]⟩
abbrev S128x4096 : Shape := ⟨2, ![128, 4096]⟩
abbrev S1x4096 : Shape := ⟨2, ![1, 4096]⟩
abbrev S256x1 : Shape := ⟨2, ![256, 1]⟩
abbrev S256x32 : Shape := ⟨2, ![256, 32]⟩
abbrev S256 : Shape := ⟨1, ![256]⟩
abbrev S4x4096x29 : Shape := ⟨3, ![4, 4096, 29]⟩
abbrev S16384x128 : Shape := ⟨2, ![16384, 128]⟩
abbrev S4 : Shape := ⟨1, ![4]⟩
abbrev S4x1x1 : Shape := ⟨3, ![4, 1, 1]⟩
abbrev S524288 : Shape := ⟨1, ![524288]⟩
abbrev S524288x128 : Shape := ⟨2, ![524288, 128]⟩
abbrev S512 : Shape := ⟨1, ![512]⟩
abbrev S512x128 : Shape := ⟨2, ![512, 128]⟩
abbrev S4x4096x32x128 : Shape := ⟨4, ![4, 4096, 32, 128]⟩
abbrev S4x4096x32x96 : Shape := ⟨4, ![4, 4096, 32, 96]⟩
abbrev S4x96x4096x32 : Shape := ⟨4, ![4, 96, 4096, 32]⟩
abbrev S4x32x3x4096x32 : Shape := ⟨5, ![4, 32, 3, 4096, 32]⟩
abbrev S4x4096x32x3 : Shape := ⟨4, ![4, 4096, 32, 3]⟩
abbrev S4x32x3x4096x1 : Shape := ⟨5, ![4, 32, 3, 4096, 1]⟩

abbrev nBuf : Table → Nat
  | .hbm => 29
  | .local .tc .vmem => 7
  | .local .scVector .vmem => 2
  | _ => 0

abbrev bufTy : (tb : Table) → Fin (nBuf tb) → BufTy
  | .hbm, ⟨0, _⟩ => ⟨S4x4096x3, .f32⟩
  | .hbm, ⟨1, _⟩ => ⟨S4x32x3x4096, .f32⟩
  | .hbm, ⟨2, _⟩ => ⟨S4x96x4096, .f32⟩
  | .hbm, ⟨3, _⟩ => ⟨S4x4096x96, .f32⟩
  | .hbm, ⟨4, _⟩ => ⟨S_, .f32⟩
  | .hbm, ⟨5, _⟩ => ⟨S4x4096x32, .f32⟩
  | .hbm, ⟨6, _⟩ => ⟨S4x4096x128, .f32⟩
  | .hbm, ⟨7, _⟩ => ⟨S4x128x4096, .f32⟩
  | .hbm, ⟨8, _⟩ => ⟨S4x4096x32, .i32⟩
  | .hbm, ⟨9, _⟩ => ⟨S_, .f32⟩
  | .hbm, ⟨10, _⟩ => ⟨S4x4096x29, .f32⟩
  | .hbm, ⟨11, _⟩ => ⟨S4x4096x32, .f32⟩
  | .hbm, ⟨12, _⟩ => ⟨S4x4096x128, .f32⟩
  | .hbm, ⟨13, _⟩ => ⟨S16384x128, .f32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4x1x1, .i32⟩
  | .hbm, ⟨19, _⟩ => ⟨S4x4096x32, .i32⟩
  | .hbm, ⟨20, _⟩ => ⟨S4x4096x32, .i32⟩
  | .hbm, ⟨21, _⟩ => ⟨S524288, .i32⟩
  | .hbm, ⟨22, _⟩ => ⟨S524288x128, .f32⟩
  | .hbm, ⟨23, _⟩ => ⟨S4x4096x32x128, .f32⟩
  | .hbm, ⟨24, _⟩ => ⟨S4x4096x32x96, .f32⟩
  | .hbm, ⟨25, _⟩ => ⟨S4x96x4096x32, .f32⟩
  | .hbm, ⟨26, _⟩ => ⟨S4x32x3x4096x32, .f32⟩
  | .hbm, ⟨27, _⟩ => ⟨S4x4096x32x3, .f32⟩
  | .hbm, ⟨28, _⟩ => ⟨S4x32x3x4096x1, .f32⟩
  | .local .tc .vmem, ⟨0, _⟩ => ⟨S1x256x128, .f32⟩
  | .local .tc .vmem, ⟨1, _⟩ => ⟨S1x256x128, .f32⟩
  | .local .tc .vmem, ⟨2, _⟩ => ⟨S1x128x4096, .f32⟩
  | .local .tc .vmem, ⟨3, _⟩ => ⟨S1x128x4096, .f32⟩
  | .local .tc .vmem, ⟨4, _⟩ => ⟨S1x256x32, .i32⟩
  | .local .tc .vmem, ⟨5, _⟩ => ⟨S1x256x32, .i32⟩
  | .local .tc .vmem, ⟨6, _⟩ => ⟨S256x4096, .f32⟩
  | .local .scVector .vmem, ⟨0, _⟩ => ⟨S512, .i32⟩
  | .local .scVector .vmem, ⟨1, _⟩ => ⟨S512x128, .f32⟩
  | _, _ => ⟨S4x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v9_scv : Ref sig .scVector := ⟨.hbm, 13, rfl⟩
abbrev main_v16_scv : Ref sig .scVector := ⟨.hbm, 21, rfl⟩
abbrev main_v17_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_8 : BitVec 32 := 0#32
  let c32_i32 : BitVec 32 := 32#32
  let v401 : BitVec 32 := Scalar.addi c0_i32_8 c32_i32
  let c1_i32 : BitVec 32 := 1#32
  ⟨c0_i32_8, v401, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_0 : BitVec 32 := 0#32
  let c1_i32 : BitVec 32 := 1#32
  let arg8 : BitVec 32 := Scf.iv c0_i32_0 c1_i32 k1_t1
  let c512_i32 : BitVec 32 := 512#32
  let v5 : BitVec 32 := Scalar.muli arg8 c512_i32
  let v6 : BitVec 32 := Scalar.addi v2 v5
  ![v6.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let c0_i32_0 : BitVec 32 := 0#32
  let c1_i32 : BitVec 32 := 1#32
  let arg8 : BitVec 32 := Scf.iv c0_i32_0 c1_i32 k1_t1
  let c512_i32 : BitVec 32 := 512#32
  let v5 : BitVec 32 := Scalar.muli arg8 c512_i32
  let v6 : BitVec 32 := Scalar.addi v2 v5
  let c0_i32_7_r1 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x3 : Shape := ⟨3, ![4, 4096, 3]⟩
abbrev S4x32x3x4096 : Shape := ⟨4, ![4, 32, 3, 4096]⟩
abbrev S4x96x4096 : Shape := ⟨3, ![4, 96, 4096]⟩
abbrev S4x4096x96 : Shape := ⟨3, ![4, 4096, 96]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x32 : Shape := ⟨3, ![4, 4096, 32]⟩
abbrev S4x4096x32x1 : Shape := ⟨4, ![4, 4096, 32, 1]⟩
abbrev S4x4096x32x3 : Shape := ⟨4, ![4, 4096, 32, 3]⟩
abbrev S4x32x3x4096x32 : Shape := ⟨5, ![4, 32, 3, 4096, 32]⟩
abbrev S4x32x3x4096x1 : Shape := ⟨5, ![4, 32, 3, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x32x3x4096, .f32⟩
  | .hbm, ⟨2, _⟩ => ⟨S4x96x4096, .f32⟩
  | .hbm, ⟨3, _⟩ => ⟨S4x4096x96, .f32⟩
  | .hbm, ⟨4, _⟩ => ⟨S4x96x4096, .f32⟩
  | .hbm, ⟨5, _⟩ => ⟨S4x4096x96, .f32⟩
  | .hbm, ⟨6, _⟩ => ⟨S4x4096x4096, .f32⟩
  | .hbm, ⟨7, _⟩ => ⟨S4x4096x96, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x4096x96, .f32⟩
  | .hbm, ⟨12, _⟩ => ⟨S_, .f32⟩
  | .hbm, ⟨13, _⟩ => ⟨S4x4096, .f32⟩
  | .hbm, ⟨14, _⟩ => ⟨S4x1x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x32, .f32⟩
  | .hbm, ⟨24, _⟩ => ⟨S4x4096x32, .i32⟩
  | .hbm, ⟨25, _⟩ => ⟨S_, .i32⟩
  | .hbm, ⟨26, _⟩ => ⟨S4x4096x32, .i32⟩
  | .hbm, ⟨27, _⟩ => ⟨S4x4096x32, .i1⟩
  | .hbm, ⟨28, _⟩ => ⟨S_, .i32⟩
  | .hbm, ⟨29, _⟩ => ⟨S4x4096x32, .i32⟩
  | .hbm, ⟨30, _⟩ => ⟨S4x4096x32, .i32⟩
  | .hbm, ⟨31, _⟩ => ⟨S4x4096x32, .i32⟩
  | .hbm, ⟨32, _⟩ => ⟨S4x4096x32x1, .i32⟩
  | .hbm, ⟨33, _⟩ => ⟨S4x4096x32x3, .f32⟩
  | .hbm, ⟨34, _⟩ => ⟨S_, .i32⟩
  | .hbm, ⟨35, _⟩ => ⟨S4x4096x32, .i32⟩
  | .hbm, ⟨36, _⟩ => ⟨S4x4096x32, .i1⟩
  | .hbm, ⟨37, _⟩ => ⟨S_, .i32⟩
  | .hbm, ⟨38, _⟩ => ⟨S4x4096x32, .i32⟩
  | .hbm, ⟨39, _⟩ => ⟨S4x4096x32, .i32⟩
  | .hbm, ⟨40, _⟩ => ⟨S4x4096x32, .i32⟩
  | .hbm, ⟨41, _⟩ => ⟨S4x4096x32x1, .i32⟩
  | .hbm, ⟨42, _⟩ => ⟨S4x32x3x4096x32, .f32⟩
  | .hbm, ⟨43, _⟩ => ⟨S4x32x3x4096x1, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Base.lean ====
/-
  The kernel as the launch theorem of a SparseCore program sees it, and the vocabulary the other modules share: the
  resource algebra (the handshakes' rounds, the pipeline's rounds, the transfers' counters), the arrays, and the function
  the gather computes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points

@[expose] public section

set_option maxRecDepth 16384

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
omit [FloatOps F] in
theorem nCore_zero : (K (F := F)).nCore 0 = 2 := rfl
omit [FloatOps F] in
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the pipeline's rounds, -/
abbrev UP : Type := UR sig nD τ
/-- and the transfers' counters. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl).trans embR
instance : (EP (F := F)).LandsIn (upEmb : UEmb _ 𝕄) := by unfold EP; infer_instance

/-! ## The arrays of the SparseCore call -/

/-- The table, -/
abbrev tabLoc (d : Dev nD) : Loc nD τ sig := (SparseCore.T d).loc main_v9
/-- the row numbers, -/
abbrev idxLoc (d : Dev nD) : Loc nD τ sig := (SparseCore.T d).loc main_v16
/-- the gathered rows. -/
abbrev outLoc (d : Dev nD) : Loc nD τ sig := (SparseCore.T d).loc main_v17

/-- What the SparseCore call computes: row `j` of the result is the row of the table that entry `j` of the list names. -/
def gathered (tab : S16384x128.Idx → Elt F .f32) (idx : S524288.Idx → Elt F .i32) : S524288x128.Idx → Elt F .f32 :=
  fun j => tab (ix2 (⟨min (idx (ix1 (j 0))).toNat 16383, lt_of_le_of_lt (min_le_right _ _) (by decide)⟩ : Fin 16384) (j 1))

end Cert.Proof.Knn

end
-- ==== Proof.Body.lean ====
/-
  The body of the top-k call at one grid point: from a block of queries and the keys of its batch it leaves, in the
  result's block, for every query the thirty-two nearest keys' numbers as the body's own arithmetic picks them
  (`topBlk`: the distances, then thirty-two rounds of "take the first least entry, strike it out").
-/
module

public import proofs.«01_k».proof.Proof.Base
public import Idealize.ShloMosaic.Lib.VecWindow

@[expose] public section

set_option maxRecDepth 16384

noncomputable section

namespace Cert.Proof.Knn

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

attribute [local irreducible] k0_pay1 k0_pay2 k0_pay3 k0_pay4 k0_pay5 k0_pay6 k0_pay7 k0_pay8 k0_pay9 k0_pay10 k0_pay11 k0_pay12 k0_pay13
  k0_pay14 k0_pay15 k0_pay16 k0_pay17 k0_pay18

/-! ## What the body computes -/

/-- The keys' squared norms, as the body sums them. -/
def kkOf (v2 : Vec F S1x128x4096 .f32) : FVec F S1x4096 .f32 :=
  k0_pay9 (k0_pay5 v2) (k0_pay8 (k0_pay5 v2) (k0_pay7 (k0_pay5 v2) (k0_pay6 v2)))
/-- The queries' squared norms before the last additions, as the body sums them. -/
def qqOf (v0 : Vec F S1x256x128 .f32) : FVec F S256x1 .f32 :=
  k0_pay13 (k0_pay10 (k0_pay2 v0)) (k0_pay12 (k0_pay10 (k0_pay2 v0)) (k0_pay11 (k0_pay2 v0)))
/-- The distances of a block of queries to the keys. -/
def distBlk (v0 : Vec F S1x256x128 .f32) (v2 : Vec F S1x128x4096 .f32) : FVec F S256x4096 .f32 :=
  k0_pay14 (k0_pay4 v0 v2) (kkOf v2) (k0_pay10 (k0_pay2 v0)) (qqOf v0)

/-- One round: the distances with each row's first least entry struck out, and the numbers of those entries put in
    column `k`. -/
def roundOf (k : Fin k0_t1_loop.trips) (p : FVec F S256x4096 .f32 × IVec S256x32 32) : FVec F S256x4096 .f32 × IVec S256x32 32 :=
  (k0_pay17 p.1, k0_pay18 k p.2 p.1)
theorem roundOf_fst (k : Fin k0_t1_loop.trips) (p : FVec F S256x4096 .f32 × IVec S256x32 32) : (roundOf k p).1 = k0_pay17 p.1 := rfl
theorem roundOf_snd (k : Fin k0_t1_loop.trips) (p : FVec F S256x4096 .f32 × IVec S256x32 32) : (roundOf k p).2 = k0_pay18 k p.2 p.1 := rfl
/-- The rounds before round `k`. -/
def roundsOf (D : FVec F S256x4096 .f32) : ℕ → FVec F S256x4096 .f32 × IVec S256x32 32
  | 0 => (D, k0_pay15)
  | k + 1 => if h : k < k0_t1_loop.trips then roundOf ⟨k, h⟩ (roundsOf D k) else roundsOf D k

theorem roundsOf_zero (D : FVec F S256x4096 .f32) : roundsOf D 0 = (D, k0_pay15) := rfl
theorem roundsOf_succ (D : FVec F S256x4096 .f32) (k : Fin k0_t1_loop.trips) :
    roundsOf D (k.val + 1) = roundOf k (roundsOf D k.val) := by
  rw [roundsOf.eq_2]; exact dif_pos k.isLt

/-- The block of the result the body leaves. -/
def topBlk (v0 : Vec F S1x256x128 .f32) (v2 : Vec F S1x128x4096 .f32) : IVec S1x256x32 32 :=
  k0_pay1 (roundsOf (distBlk v0 v2) k0_t1_loop.trips).2

/-! ## The run -/

section

variable (c : Dev nD) (i : grid0.Coords) (arg2 : Memref sig .tc .vmem S1x256x128 .f32) (harg2 : arg2.IsWhole) (arg3 : Memref sig .tc .vmem S1x128x4096 .f32) (harg3 : arg3.IsWhole)
  (arg4 : Memref sig .tc .vmem S1x256x32 .i32) (harg4 : arg4.IsWhole) (arg5 : Memref sig .tc .vmem S256x4096 .f32) (harg5 : arg5.IsWhole)

/-- Before round `k`: the scratch reads as the rounds so far leave the distances, and the carried block is the numbers
    picked so far. -/
def roundInv (D : FVec F S256x4096 .f32) (k : ℕ) (acc : IVec S256x32 32) : sProp 𝕄 :=
  iprop(∃ f, (arg5.view.loc (c : Thread nD τ) ↦[arg5.view.set]{fullShare} f) ∗ ⌜arg5.view.read (Elt F) f = (roundsOf D k).1⌝ ∗ ⌜acc = (roundsOf D k).2⌝)

theorem round (E : Set ℕ) (D : FVec F S256x4096 .f32) (v4 : FVec F S256x4096 .f32) (v196 : FVec F S1x4096 .f32) (v197 : FVec F S256x128 .f32) (v350 : FVec F S256x1 .f32)
    (k : Fin k0_t1_loop.trips) (acc : IVec S256x32 32) :
    roundInv c arg5 D k.val acc
      ⊢ wp frame (wpE (defs₀ (F := F)) 𝒱₀ (c : Thread nD τ) none) E (k0_t1_body i arg2 harg2 arg3 harg3 arg4 harg4 arg5 harg5 v4 v196 v197 v350 k acc)
          (fun yld => roundInv c arg5 D (k.val + 1) yld) := by
  unfold roundInv k0_t1_body
  iintro ⟨%f, H, %hf, %hacc⟩
  sl_exec
  sl_step
  iexists _
  isplitl [H]; · iexact H
  rw [roundsOf_succ]
  isplitr
  · ipureintro
    rw [roundOf_fst]
    exact (View.read_writes_full _ _ _ _ _).trans (congrArg k0_pay17 ((View.readAt_full _ _ _).trans hf))
  · ipureintro
    rw [roundOf_snd, ← hacc]
    exact congrArg (k0_pay18 k acc) ((View.readAt_full _ _ _).trans hf)

theorem body (E : Set ℕ) (X : S1x256x128.Idx → Elt F .f32) (Y : S1x128x4096.Idx → Elt F .f32) :
    (iprop(owns c arg2 fullShare X ∗ owns c arg3 fullShare Y ∗ (∃ Z, owns c arg4 fullShare Z) ∗ (∃ Z, owns c arg5 fullShare Z)) : sProp 𝕄)
      ⊢ wp frame (wpE (defs₀ (F := F)) 𝒱₀ (c : Thread nD τ) none) E (cc0__topk_body i arg2 harg2 arg3 harg3 arg4 harg4 arg5 harg5)
          (fun _ => iprop(owns c arg2 fullShare X ∗ owns c arg3 fullShare Y ∗ owns c arg4 fullShare (topBlk X Y) ∗ (∃ Z, owns c arg5 fullShare Z))) := by
  unfold owns
  iintro ⟨⟨%f2, %h2, H2⟩, ⟨%f3, %h3, H3⟩, ⟨%Z4, %f4, -, H4⟩, ⟨%Z5, %f5, -, H5⟩⟩
  rw [cc0__topk_body_eq_skeleton]; unfold cc0__topk_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  sl_exec
  have e2 := (View.readAt_full arg2.view f2 inb_S1x256x128_S1x256x128_0_0_0).trans h2
  have e3 := (View.readAt_full arg3.view f3 inb_S1x128x4096_S1x128x4096_0_0_0).trans h3
  simp only [e2, e3]
  sl_for (roundInv (F := F) c arg5 (distBlk X Y)) $$ [H5]
  case region => exact fun k acc => round c i arg2 harg2 arg3 harg3 arg4 harg4 arg5 harg5 E (distBlk X Y) _ _ _ _ k acc
  · unfold roundInv
    iexists _
    isplitl [H5]; · iexact H5
    isplitr
    · ipureintro
      rw [roundsOf_zero]
      unfold body.sl.H5_1
      refine (View.read_writes_full _ _ _ _ _).trans ?_
      simp only [e2, e3, distBlk, kkOf, qqOf]
    · ipureintro
      rw [roundsOf_zero]
  iintro %v HI
  unfold roundInv
  icases HI with ⟨%g5, H5, -, %hv⟩
  sl_exec
  sl_step
  isplitl [H2]
  · iexists f2; isplitr; · ipureintro; exact h2
    iexact H2
  isplitl [H3]
  · iexists f3; isplitr; · ipureintro; exact h3
    iexact H3
  isplitl [H4]
  · iexists _; isplitr; swap; · iexact H4
    ipureintro
    refine (View.read_writes_full _ _ _ _ _).trans ?_
    rw [hv]; exact congrArg k0_pay1 rfl
  iexists _; iexists g5; isplitr; swap; · iexact H5
  ipureintro; rfl

end

end Cert.Proof.Knn

end
-- ==== Proof.Region.lean ====
/-
  The top-k call as a region of the host program: its pipeline's proof data at the contents the region is entered with,
  the body's obligation at a grid point, what the result's array holds afterwards (`topAll`), and the region's record
  over the thread's state.
-/
module

public import proofs.«01_k».proof.Proof.Body
public import Idealize.ShloMosaic.Lib.Pipeline.FrameBody
public import Idealize.ShloMosaic.Lib.Pipeline.Value
public import Idealize.ShloMosaic.Lib.Pipeline.RegionsLoop

@[expose] public section

set_option maxRecDepth 16384

noncomputable section

namespace Cert.Proof.Knn

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 1) (Elt F) ℕ UU ℕ

attribute [local irreducible] topBlk

/-! ## What the call computes -/

/-- Block `(b, i)` of the queries; the keys of batch `b`. -/
def blkQ (q : S4x4096x128.Idx → Elt F .f32) (b : Fin 4) (i : Fin 16) : S1x256x128.Idx → Elt F .f32 :=
  fun x => q (ix3 b (⟨256 * i.val + (x 1).val, by have := i.isLt; have : (x 1).val < 256 := (x 1).isLt; omega⟩ : Fin 4096) (x 2))
def blkK (kt : S4x128x4096.Idx → Elt F .f32) (b : Fin 4) : S1x128x4096.Idx → Elt F .f32 :=
  fun x => kt (ix3 b (x 1) (x 2))

/-- The call's result: block by block, what the body leaves from the queries' block and the batch's keys. -/
def topAll (q : S4x4096x128.Idx → Elt F .f32) (kt : S4x128x4096.Idx → Elt F .f32) : S4x4096x32.Idx → Elt F .i32 := fun j =>
  topBlk (blkQ q (j 0) (⟨(j 1).val / 256, by have : (j 1).val < 4096 := (j 1).isLt; omega⟩ : Fin 16)) (blkK kt (j 0))
    (ix3 (0 : Fin 1) (⟨(j 1).val % 256, Nat.mod_lt _ (by decide)⟩ : Fin 256) (j 2))

/-! ## The proof data -/

section

variable (V : (c : Dev nD) → (b : Ref sig .tc) → Buf (Elt F) ((c : Thread nD τ).loc b))

/-- The queries' block at point `t`, and the keys', read off the arrays at entry. -/
abbrev iblk0 (c : Dev nD) (t : Fin cfg0.N) : S1x256x128.Idx → Elt F .f32 := (win0_0.blk t).view.read (Elt F) (V c main_v3)
abbrev iblk1 (c : Dev nD) (t : Fin cfg0.N) : S1x128x4096.Idx → Elt F .f32 := (win0_1.blk t).view.read (Elt F) (V c main_v4)

def dat (c : Dev nD) : Dat τ (Elt F) (HIx 1) ℕ UU ℕ cfg0 c where
  A w := V c (Pipeline.arrRef spec0 w)
  after w t := match w with
    | ⟨0, _⟩ => iblk0 V c t
    | ⟨1, _⟩ => iblk1 V c t
    | ⟨2, _⟩ => topBlk (iblk0 V c t) (iblk1 V c t)
  Φ _ := Pipeline.scopedRest spec0 c
  q _ := fullShare
  owed _ := (K (F := F)).Otc c 0
  recorded _ := {p | (K (F := F)).lev (T c, p.1) p.2 ≤ 0}

variable (adm : (p : Fin 1) → (pcfgs (F := F) p).Adm)
def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg0.N) (d) : (dat V c).before 0 t d = iblk0 V c t :=
  ((dat V c).before_in_eq_fetched 0 rfl (fun _ => rfl) (fun _ _ _ => rfl) (fun t => rfl) t d).trans rfl
theorem before1 (c : Dev nD) (t : Fin cfg0.N) (d) : (dat V c).before 1 t d = iblk1 V c t :=
  ((dat V c).before_in_eq_fetched 1 rfl (fun _ => rfl) (fun _ _ _ => rfl) (fun t => rfl) t d).trans rfl

theorem scratch_owns (c : Dev nD) : (iprop(∃ f : Buf (Elt F) ((c : Thread nD τ).loc cc0_scratch0), ((c : Thread nD τ).loc cc0_scratch0) ↦{fullShare} f) : sProp 𝕄)
    ⊢ iprop(∃ Z, owns (c : Thread nD τ) (Memref.whole cc0_scratch0) fullShare Z) := by
  iintro ⟨%f, H⟩
  iexists f
  rw [owns_whole_eq]
  iexists f; isplitr; · ipureintro; rfl
  iexact H
theorem owns_scratch (c : Dev nD) : (iprop(∃ Z, owns (c : Thread nD τ) (Memref.whole cc0_scratch0) fullShare Z) : sProp 𝕄)
    ⊢ iprop(∃ f : Buf (Elt F) ((c : Thread nD τ).loc cc0_scratch0), ((c : Thread nD τ).loc cc0_scratch0) ↦{fullShare} f) := by
  simp only [owns_whole_eq]
  iintro ⟨%Z, %f, -, H⟩
  iexists f; iexact H

theorem bodyObl (c : Dev nD) : BodyObligation (dat V c) (defs₀ (F := F)) 𝒱₀ none Set.univ := fun t => by
  rw [bigSep_W0, bigSep_W0]
  simp only [before0, before1]
  rw [show (dat V c).Φ t.castSucc = Pipeline.scopedRest spec0 c from rfl, show (dat V c).Φ t.succ = Pipeline.scopedRest spec0 c from rfl,
    show (dat V c).owesAt none t.succ = (dat V c).owesAt none t.castSucc from rfl, scopedRest0_eq]
  iintro ⟨HΦ, Howes, ⟨%d0, H0⟩, ⟨%d1, H1⟩, ⟨%d2, H2⟩⟩
  icases HΦ with ⟨%f5, H5⟩
  iapply (wp_wand_r Idealize.ShloMosaic.frame (wpE (defs₀ (F := F)) 𝒱₀ (c : Thread nD τ) none) Set.univ)
  isplitl [H0 H1 H2 H5]
  · iapply (body c (grid0.coords t) (win0_0.stage (cfg0.slots t 0)) (hstage0_0 ((cfg0.slots t 0).cast nbuf0_0)) (win0_1.stage (cfg0.slots t 1))
      (hstage0_1 ((cfg0.slots t 1).cast nbuf0_1)) (win0_2.stage (cfg0.slots t 2)) (hstage0_2 ((cfg0.slots t 2).cast nbuf0_2))
      (Memref.whole cc0_scratch0) (Memref.isWhole_whole _) Set.univ (iblk0 V c t) (iblk1 V c t))
    isplitl [H0]; · iexact H0
    isplitl [H1]; · iexact H1
    isplitl [H2]; · iexists _; iexact H2
    iapply (scratch_owns c); iexists f5; iexact H5
  iintro %_ ⟨H0, H1, H2, H5⟩
  isplitl [H5]
  · iapply (owns_scratch c); iexact H5
  isplitl [Howes]; · iexact Howes
  isplitl [H0]; · iexact H0
  isplitl [H1]; · iexact H1
  iexact H2

/-! ## The result's array -/

theorem index0 (t : Fin cfg0.N) : win0_0.index t = ![t.val / 16, t.val % 16, 0] := by
  revert t; decide +kernel
theorem index1 (t : Fin cfg0.N) : win0_1.index t = ![t.val / 16, 0, 0] := by
  revert t; decide +kernel
theorem index2 (t : Fin cfg0.N) : win0_2.index t = ![t.val / 16, t.val % 16, 0] := by
  revert t; decide +kernel

/-- Point `t`'s batch and block. -/
def ptB (t : Fin cfg0.N) : Fin 4 := ⟨t.val / 16, by have : t.val < 64 := t.isLt; omega⟩
def ptI (t : Fin cfg0.N) : Fin 16 := ⟨t.val % 16, Nat.mod_lt _ (by decide)⟩

theorem blk0_emb (t : Fin cfg0.N) (x : S1x256x128.Idx) (a : Fin 3) :
    ((win0_0.blk t).view.emb x a).val = win0_0.index t a * S1x256x128.size a + 1 * (x a).val := rfl
theorem blk1_emb (t : Fin cfg0.N) (x : S1x128x4096.Idx) (a : Fin 3) :
    ((win0_1.blk t).view.emb x a).val = win0_1.index t a * S1x128x4096.size a + 1 * (x a).val := rfl
theorem blk2_emb (t : Fin cfg0.N) (x : S1x256x32.Idx) (a : Fin 3) :
    ((win0_2.blk t).view.emb x a).val = win0_2.index t a * S1x256x32.size a + 1 * (x a).val := rfl

theorem iblk0_eq (c : Dev nD) (t : Fin cfg0.N) : iblk0 V c t = blkQ (V c main_v3) (ptB t) (ptI t) := by
  funext x
  show V c main_v3 ((win0_0.blk t).view.emb x) = _
  refine congrArg (V c main_v3) (funext fun a => Fin.ext ?_)
  rw [blk0_emb, index0]
  have h0 : (x 0).val < 1 := (x 0).isLt
  match a with
  | 0 => show t.val / 16 * 1 + 1 * (x 0).val = t.val / 16; omega
  | 1 => show t.val % 16 * 256 + 1 * (x 1).val = 256 * (t.val % 16) + (x 1).val; omega
  | 2 => show 0 * 128 + 1 * (x 2).val = (x 2).val; omega
theorem iblk1_eq (c : Dev nD) (t : Fin cfg0.N) : iblk1 V c t = blkK (V c main_v4) (ptB t) := by
  funext x
  show V c main_v4 ((win0_1.blk t).view.emb x) = _
  refine congrArg (V c main_v4) (funext fun a => Fin.ext ?_)
  rw [blk1_emb, index1]
  have h0 : (x 0).val < 1 := (x 0).isLt
  match a with
  | 0 => show t.val / 16 * 1 + 1 * (x 0).val = t.val / 16; omega
  | 1 => show 0 * 128 + 1 * (x 1).val = (x 1).val; omega
  | 2 => show 0 * 4096 + 1 * (x 2).val = (x 2).val; omega

/-- The call's result at block `(b, i)`. -/
theorem topAll_at (q : S4x4096x128.Idx → Elt F .f32) (kt : S4x128x4096.Idx → Elt F .f32) (j : S4x4096x32.Idx) (b : Fin 4) (i : Fin 16) (x : S1x256x32.Idx)
    (h0 : (j 0).val = b.val) (h1 : (j 1).val = 256 * i.val + (x 1).val) (h2 : (j 2).val = (x 2).val) :
    topAll q kt j = topBlk (blkQ q b i) (blkK kt b) x := by
  have hx0 : (x 0).val < 1 := (x 0).isLt
  have hx1 : (x 1).val < 256 := (x 1).isLt
  obtain rfl : j 0 = b := Fin.ext h0
  have hm : (j 1).val % 256 = (x 1).val := by omega
  have hb : (j 1).val / 256 < 16 := Nat.div_lt_of_lt_mul (j 1).isLt
  have hi : i = (⟨(j 1).val / 256, hb⟩ : Fin 16) := Fin.ext (by show i.val = (j 1).val / 256; omega)
  rw [hi]
  show topBlk (blkQ q (j 0) (⟨(j 1).val / 256, hb⟩ : Fin 16)) (blkK kt (j 0))
    (ix3 (0 : Fin 1) (⟨(j 1).val % 256, Nat.mod_lt _ (by decide)⟩ : Fin 256) (j 2)) = _
  refine congrArg (topBlk _ _) (funext fun a => Fin.ext ?_)
  match a with
  | 0 => show 0 = (x 0).val; omega
  | 1 => exact hm
  | 2 => exact h2

theorem arr_out (c : Dev nD) : (dat V c).arrAt 2 cfg0.N = topAll (V c main_v3) (V c main_v4) := by
  refine (dat V c).arrAt_eq_of_cover 2 _ (fun t _ => ?_) (fun i => ?_)
  · funext x
    show topBlk (iblk0 V c t) (iblk1 V c t) x = topAll (V c main_v3) (V c main_v4) ((win0_2.blk t).view.emb x)
    rw [iblk0_eq, iblk1_eq]
    have hx0 : (x 0).val < 1 := (x 0).isLt
    refine (topAll_at _ _ _ (ptB t) (ptI t) x ?_ ?_ ?_).symm
    · refine (blk2_emb t x 0).trans ?_
      rw [index2]; show t.val / 16 * 1 + 1 * (x 0).val = t.val / 16; omega
    · refine (blk2_emb t x 1).trans ?_
      rw [index2]; show t.val % 16 * 256 + 1 * (x 1).val = 256 * (t.val % 16) + (x 1).val; omega
    · refine (blk2_emb t x 2).trans ?_
      rw [index2]; show 0 * 32 + 1 * (x 2).val = (x 2).val; omega
  · have h0 : (i 0).val < 4 := (i 0).isLt
    have h1 : (i 1).val < 4096 := (i 1).isLt
    refine ⟨⟨16 * (i 0).val + (i 1).val / 256, by show _ < 64; omega⟩, flush0_2 _, ?_⟩
    refine Finset.mem_map.mpr ⟨ix3 (0 : Fin 1) (⟨(i 1).val % 256, Nat.mod_lt _ (by decide)⟩ : Fin 256) (i 2), Finset.mem_univ _, ?_⟩
    funext a
    apply Fin.ext
    refine (blk2_emb _ _ a).trans ?_
    rw [index2]
    match a with
    | 0 => show (16 * (i 0).val + (i 1).val / 256) / 16 * 1 + 1 * 0 = (i 0).val; omega
    | 1 => show (16 * (i 0).val + (i 1).val / 256) % 16 * 256 + 1 * ((i 1).val % 256) = (i 1).val; omega
    | 2 => show 0 * 32 + 1 * (i 2).val = (i 2).val; omega

/-! ## The region's record -/

/-- The TensorCore's arrays. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- What the core owes between the calls: the SparseCores' starts, its waits so far below them. -/
abbrev owesTc (c : Dev nD) : sProp 𝕄 :=
  iprop(∃ W, ⌜(K (F := F)).WBelow (T c) W 0⌝ ∗ owes (T c) ((K (F := F)).Otc c 0) W)

theorem otc_none (c : Dev nD) (n : ℕ) (g : GSem nD τ sig) : (K (F := F)).Otc c n g none = 0 := by
  rcases Nat.eq_zero_or_pos ((K (F := F)).Otc c n g none) with h | h
  · exact h
  · have h1 : _ ≤ 0 := (K (F := F)).lev_of_Otc_pos h
    exact absurd h1 (Nat.not_succ_le_zero _)

variable (V' : (c : Dev nD) → (b : Ref sig .tc) → Buf (Elt F) ((c : Thread nD τ).loc b))

set_option backward.isDefEq.respectTransparency.types false in
/-- The region over "every array at `V`, what rides along, what the core owes": it leaves the arrays at `V'`, which has
    the result's at `topAll` and agrees with `V` elsewhere. -/
def reg (R : Dev nD → sProp 𝕄) (hout : ∀ c, V' c main_v5 = topAll (V c main_v3) (V c main_v4))
    (hne : ∀ c (b : Ref sig .tc), b ≠ main_v5 → V' c b = V c b) :
    Pipeline.RegionSeg (pcfgs (F := F)) adm (pdats V adm) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (bodyObl V c).loose
  hwaits c := Pipeline.cellsWaits_intro cfgs (pdats V adm) none 0 c fun _ _ _ => (K (F := F)).mayWait_none _ (otc_none c 0)
  pre c := iprop(unscopedBufs c (V c) ∗ R c ∗ owesTc c)
  post c := iprop(unscopedBufs c (V' c) ∗ R c ∗ owesTc c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V adm) (launch0).win (launch0).arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V adm) ((pdats V adm 0 c).share_full fun _ => rfl) (V c) (V' c) ((pdats V adm 0 c).arrAt · cfg0.N)
      (fun w => by
        fin_cases w
        · exact ((pdats V adm 0 c).arrAt_in 0 rfl _).trans (hne c main_v3 (by decide)).symm
        · exact ((pdats V adm 0 c).arrAt_in 1 rfl _).trans (hne c main_v4 (by decide)).symm
        · exact (arr_out V c).trans (hout c).symm)
      (fun b hb => hne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, rfl⟩
      · exact h
      · exact le_rfl
    iexact HO

end

end Cert.Proof.Knn

end
-- ==== Proof.Tile.lean ====
/-
  One task of the SparseCore call, on vector subcore `(L 0, L 1)`: its 16384 rows of the result in 32 trips of 512. A trip
  fetches its 512 row numbers, gathers those rows of the table by the indirect copy, and writes them out. The task holds
  a read share of the list and of the table and its own rows of the result outright; the loop's invariant says that the
  rows of the trips already run hold what `gathered` says.
-/
module

public import proofs.«01_k».proof.Proof.Base

@[expose] public section

set_option maxRecDepth 16384

noncomputable section

namespace Cert.Proof.Knn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
abbrev tabV : Memref Cert.KernelIdeal.sig Kind.scVector Space.hbm Cert.KernelIdeal.S16384x128 EltTy.f32 := Memref.whole Cert.KernelIdeal.main_v9_scv
abbrev idxV : Memref Cert.KernelIdeal.sig Kind.scVector Space.hbm Cert.KernelIdeal.S524288 EltTy.i32 := Memref.whole Cert.KernelIdeal.main_v16_scv
abbrev outV : Memref Cert.KernelIdeal.sig Kind.scVector Space.hbm Cert.KernelIdeal.S524288x128 EltTy.f32 := Memref.whole Cert.KernelIdeal.main_v17_scv
abbrev lstV : Memref Cert.KernelIdeal.sig Kind.scVector Space.vmem Cert.KernelIdeal.S512 EltTy.i32 := Memref.whole Cert.KernelIdeal.cc1_scratch0
abbrev rowV : Memref Cert.KernelIdeal.sig Kind.scVector Space.vmem Cert.KernelIdeal.S512x128 EltTy.f32 := Memref.whole Cert.KernelIdeal.cc1_scratch1

/-! ## The rows of a core and of a task -/

/-- The rows of the tasks on SparseCore `c`: every second block of 16384. -/
def coreSet (c : ℕ) : Finset S524288x128.Idx := Finset.univ.filter fun j => (j 0).val / 16384 % 2 = c
/-- The rows of task `i` of SparseCore `c`: block `2 i + c`. -/
def taskSet (c i : ℕ) : Finset S524288x128.Idx := Finset.univ.filter fun j => (j 0).val / 16384 = 2 * i + c

theorem mem_taskSet {c i : ℕ} {j : S524288x128.Idx} : j ∈ taskSet c i ↔ (j 0).val / 16384 = 2 * i + c := by simp [taskSet]
theorem mem_coreSet {c : ℕ} {j : S524288x128.Idx} : j ∈ coreSet c ↔ (j 0).val / 16384 % 2 = c := by simp [coreSet]

section Tile

variable (d : Dev nD) (L : grid1.Coords)

abbrev cV (L : grid1.Coords) : Fin τ.nSC := (L 0).castLE hcore1
abbrev jV (L : grid1.Coords) : Fin τ.nSub := (L 1).castLE hsub1

theorem core_lt : (L 0).val < 2 := (L 0).isLt
theorem sub_lt : (L 1).val < 16 := (L 1).isLt

abbrev thr (d : Dev nD) (L : grid1.Coords) : Thread nD τ := V d (cV L) (jV L)

theorem trips_eq : k1_t1_loop.trips = 32 := by decide

/-- The trip's stretch of the list, and its rows of the result. -/
abbrev lstK (t : Fin k1_t1_loop.trips) : Memref sig .scVector .hbm S512 .i32 :=
  (idxV).slice (Rect.unit (s := S524288) (k1_off1 L t) S512.size (k1_off1_inb L t)) (fun _ => rfl)
abbrev outK (t : Fin k1_t1_loop.trips) : Memref sig .scVector .hbm S512x128 .f32 :=
  (outV).slice (Rect.unit (s := S524288x128) (k1_off2 L t) S512x128.size (k1_off2_inb L t)) (fun _ => rfl)
abbrev tabK : Memref sig .scVector .hbm S16384x128 .f32 :=
  (tabV).slice (Rect.unit (s := S16384x128) ![0, 0] S16384x128.size inb_S16384x128_S16384x128_0_0) (fun _ => rfl)

/-- The first row of the trip. -/
def row0 (t : ℕ) : ℕ := 32768 * (L 1).val + 16384 * (L 0).val + 512 * t

theorem lstK_emb (t : Fin k1_t1_loop.trips) (x : S512.Idx) : ((lstK L t).view.emb x 0).val = row0 L t.val + (x 0).val := by
  show (k1_off1 L t) 0 + 1 * (x 0).val = _
  rw [k1_off1_eq, Nat.one_mul]; rfl
/-- The index of the result that entry `x` of the trip's block is. -/
abbrev outIx (t : Fin k1_t1_loop.trips) (x : S512x128.Idx) : S524288x128.Idx := (outK L t).view.emb x
theorem outK_emb0 (t : Fin k1_t1_loop.trips) (x : S512x128.Idx) : ((outK L t).view.emb x 0).val = row0 L t.val + (x 0).val := by
  show (k1_off2 L t) 0 + 1 * (x 0).val = _
  rw [k1_off2_eq, Nat.one_mul]; rfl
theorem outK_emb1 (t : Fin k1_t1_loop.trips) (x : S512x128.Idx) : (outK L t).view.emb x 1 = x 1 := by
  apply Fin.ext
  show (k1_off2 L t) 1 + 1 * (x 1).val = _
  rw [k1_off2_eq, Nat.one_mul]; exact Nat.zero_add _
theorem tabK_emb (x : S16384x128.Idx) : (tabK).view.emb x = x := by
  funext a; apply Fin.ext
  match a with
  | 0 => show 0 + 1 * (x 0).val = _; omega
  | 1 => show 0 + 1 * (x 1).val = _; omega

theorem mem_outK {t : Fin k1_t1_loop.trips} {j : S524288x128.Idx} :
    j ∈ (outK L t).view.set ↔ row0 L t.val ≤ (j 0).val ∧ (j 0).val < row0 L t.val + 512 := by
  constructor
  · intro h
    obtain ⟨x, -, rfl⟩ := Finset.mem_map.mp h
    have h0 := outK_emb0 L t x
    have hx : (x 0).val < 512 := (x 0).isLt
    constructor <;> omega
  · rintro ⟨h1, h2⟩
    refine Finset.mem_map.mpr ⟨ix2 (⟨(j 0).val - row0 L t.val, by omega⟩ : Fin 512) (j 1), Finset.mem_univ _, ?_⟩
    funext a
    match a with
    | 0 =>
      apply Fin.ext
      have h0 := outK_emb0 L t (ix2 (⟨(j 0).val - row0 L t.val, by omega⟩ : Fin 512) (j 1))
      exact h0.trans (Nat.add_sub_cancel' h1)
    | 1 => exact outK_emb1 L t _

theorem outK_subset (t : Fin k1_t1_loop.trips) : (outK L t).view.set ⊆ taskSet (L 0).val (L 1).val := by
  intro j hj
  rw [mem_outK] at hj
  rw [mem_taskSet]
  have ht : t.val < 32 := lt_of_lt_of_eq t.isLt trips_eq
  unfold row0 at hj
  omega

variable (tab : S16384x128.Idx → Elt F .f32) (idx : S524288.Idx → Elt F .i32)

/-- What the trip's fetch lands in the list's scratch: entry `x` is entry `x` of the trip's stretch. -/
theorem lst_read (t : Fin k1_t1_loop.trips) (x : S512.Idx) :
    (lstK L t).view.read (Elt F) idx x = idx ((lstK L t).view.emb x) := (View.read_apply _ _).trans (cast_eq _ _)

/-- The list's entries in range: every one names a row of the table. -/
theorem inb_of_range (hin : ∀ j, (idx j).toNat < 16384) (t : Fin k1_t1_loop.trips)
    (fs : Buf (Elt F) ((thr d L).loc cc1_scratch0)) (pay : S512.Idx → Elt F .i32) (hpay : pay = (lstK L t).view.read (Elt F) idx) :
    ∀ x, ((lstV).view.read (Elt F) (View.write (Elt F) (lstV).view fs pay Finset.univ) x).toNat < S16384x128.size gathers_S16384x128_S512x128.axis := by
  subst hpay; intro x
  rw [View.write_whole_univ]
  simp only [Memref.view_whole, View.read_whole]
  rw [lst_read]
  exact hin _

/-- The gather's payload, entry by entry, is `gathered` at the rows of the trip. -/
theorem payload_eq (hin : ∀ j, (idx j).toNat < 16384) (t : Fin k1_t1_loop.trips)
    (fs : Buf (Elt F) ((thr d L).loc cc1_scratch0)) (pay : S512.Idx → Elt F .i32) (hpay : pay = (lstK L t).view.read (Elt F) idx)
    (hn : S512.numel = S512x128.size gathers_S16384x128_S512x128.axis')
    (h : ∀ x, ((lstV).view.read (Elt F) (View.write (Elt F) (lstV).view fs pay Finset.univ) x).toNat < S16384x128.size gathers_S16384x128_S512x128.axis)
    (x : S512x128.Idx) :
    SparseCore.gatherPayload (F := F) gathers_S16384x128_S512x128 ((tabK).view.read (Elt F) tab)
        (SparseCore.rows ((lstV).view.read (Elt F) (View.write (Elt F) (lstV).view fs pay Finset.univ)) hn h) x
      = gathered tab idx (outIx L t x) := by
  subst hpay
  unfold SparseCore.gatherPayload gathered
  have hr : ∀ y, (tabK).view.read (Elt F) tab y = tab y := fun y => ((View.read_apply _ _).trans (cast_eq _ _)).trans (congrArg tab (tabK_emb y))
  rw [hr]
  congr 1
  have he : ∀ y, (lstV).view.read (Elt F) (View.write (Elt F) (lstV).view fs ((lstK L t).view.read (Elt F) idx) Finset.univ) y
      = idx ((lstK L t).view.emb y) := by
    intro y; rw [View.write_whole_univ]; simp only [Memref.view_whole, View.read_whole]; rw [lst_read]
  funext a
  match a with
  | 0 =>
    apply Fin.ext
    refine (congrArg Fin.val (Shape.Gathers.idx_axis gathers_S16384x128_S512x128 _ x)).trans ?_
    refine (congrArg BitVec.toNat (he _)).trans ?_
    have hj : (lstK L t).view.emb (S512.rowMajor.symm ((x gathers_S16384x128_S512x128.axis').cast hn.symm)) = (ix1 (outIx L t x 0) : S524288.Idx) := by
      funext b
      match b with
      | 0 =>
        apply Fin.ext
        refine (lstK_emb L t _).trans (Eq.trans ?_ (outK_emb0 L t x).symm)
        congr 1
        refine (Shape.rowMajor_val_one _).symm.trans ?_
        rw [Equiv.apply_symm_apply]
        rfl
    refine (congrArg (fun y => (idx y).toNat) hj).trans ?_
    exact (Nat.min_eq_left (by have := hin (ix1 (outIx L t x 0)); omega)).symm
  | 1 =>
    apply Fin.ext
    refine (Shape.Gathers.idx_of_ne gathers_S16384x128_S512x128 _ x _ (show (1 : ℕ) ≠ 0 by decide)).trans ?_
    exact congrArg Fin.val (outK_emb1 L t x).symm

/-! ## The task's storage -/

abbrev cellA (d : Dev nD) (c : Fin τ.nSC) (i : Fin τ.nSub) : GSem nD τ sig := (V d c i, .dma cc1_scratch2.sem)
abbrev cellB (d : Dev nD) (c : Fin τ.nSC) (i : Fin τ.nSub) : GSem nD τ sig := (V d c i, .dma cc1_scoped0.sem)
abbrev cellC (d : Dev nD) (c : Fin τ.nSC) (i : Fin τ.nSub) : GSem nD τ sig := (V d c i, .dma cc1_scoped1.sem)

/-- The three semaphores the task uses are among its own. -/
theorem ownSems0_task :
    (ownSems0 (thr d L) : sProp 𝕄)
      = iprop(semVal (cellA d (cV L) (jV L)) 0 ∗ semVal (cellB d (cV L) (jV L)) 0 ∗ semVal (cellC d (cV L) (jV L)) 0
          ∗ bigSep ((((ownCells (thr d L)).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc1_scratch2.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc1_scoped0.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc1_scoped1.sem : SemLoc sig).isScoped .scVector = true; decide⟩⟩⟩)]

/-- The two scratch buffers are among the subcore's own. -/
theorem ownBufs_task :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## A trip -/

/-- The shares of the list and of the table that task `(c, i)` reads. -/
abbrev shareOf (c : Fin 2) (i : Fin 16) : PosShare TreeShare := pieceOf (pieceOf fullShare 2 (by decide) c) 16 (by decide) i

variable (q : PosShare TreeShare) (O : CellTallies nD τ sig (HIx 1)) (W : Waits sig (HIx 1))

/-- Before trip `t`: the list and the table at the task's share, the task's rows of the result (those of the trips already
    run at `gathered`), the scratch, the three semaphores at zero. -/
def inv (t : ℕ) (_ : BitVec 32) : sProp 𝕄 :=
  iprop(Transfers.MayWaits (thr d L) (default : HIx 1) O
    ∗ ((idxV).view.loc (thr d L) ↦{q} (idx : Buf (Elt F) (idxLoc d)))
    ∗ ((tabV).view.loc (thr d L) ↦{q} (tab : Buf (Elt F) (tabLoc d)))
    ∗ (∃ f : Buf (Elt F) (outLoc d), ⌜∀ j : S524288x128.Idx, j ∈ taskSet (L 0).val (L 1).val → (j 0).val < row0 L t → f j = gathered tab idx j⌝
        ∗ (outV).view.loc (thr d L) ↦[taskSet (L 0).val (L 1).val]{fullShare} f)
    ∗ (∃ f, (lstV).view.loc (thr d L) ↦{fullShare} f)
    ∗ (∃ f, (rowV).view.loc (thr d L) ↦{fullShare} f)
    ∗ semVal (thr d L, SemLoc.dma cc1_scratch2.sem) 0
    ∗ semVal (thr d L, SemLoc.dma cc1_scoped0.sem) 0
    ∗ semVal (thr d L, SemLoc.dma cc1_scoped1.sem) 0
    ∗ ∃ W', ⌜∀ p ∈ W', p ∈ W ∨ p.2 = none⌝ ∗ owes (thr d L) O W')

theorem rowCredit : ∀ h : S16384x128.Gathers 0 S512x128, ∑ j, ((rowV).slice (S512x128.rowRect h.axis' j) (S512x128.stride_rowRect h.axis' j)).view.dmaCredit
      = (rowV).view.dmaCredit := by decide

/-- The block written whole holds the payload. -/
theorem writes_outK (t : Fin k1_t1_loop.trips) (f : S524288x128.Idx → Elt F .f32) (w : S512x128.Idx → Elt F .f32) (x : S512x128.Idx) :
    (outK L t).view.writes (Elt F) f [⟨Rect.whole S512x128, w⟩] (outIx L t x) = w x := by
  have he : ((outK L t).view.slice (Rect.whole S512x128)).emb x = outIx L t x :=
    congrArg (outK L t).view.emb (Rect.emb_whole_apply S512x128 x)
  rw [View.writes_singleton, ← he]
  exact (View.write_emb_of_mem _ _ (Finset.mem_univ _)).trans (cast_eq _ _)

set_option maxHeartbeats 4000000 in
/-- One trip takes the invariant to the next. -/
theorem trip (hin : ∀ j, (idx j).toNat < 16384) (t : Fin k1_t1_loop.trips) (acc : BitVec 32) :
    inv d L tab idx q O W t.val acc
      ⊢ wp frame (wpE (defs₀ (F := F)) 𝒱₀ (thr d L) none) Set.univ
          (k1_t1_body L tabV (Memref.isWhole_whole _) idxV (Memref.isWhole_whole _) outV (Memref.isWhole_whole _)
            lstV (Memref.isWhole_whole _) rowV (Memref.isWhole_whole _) cc1_scratch2 cc1_scoped0 cc1_scoped1 t acc)
          (inv d L tab idx q O W (t.val + 1)) := by
  unfold inv k1_t1_body
  iintro ⟨#Hmw, Hi, Hx, ⟨%fo, %hfo, Ho⟩, ⟨%fs, Hs⟩, ⟨%fr, Hr⟩, HsemA, HsemB, HsemC, %W', %hW', HO⟩
  ihave Hob := (pointsTo_split_subset (q := fullShare) (f := fo) (outK_subset L t)).1 $$ Ho
  icases Hob with ⟨Hob, Hor⟩
  ihave Hib := (pointsTo_split_subset (q := q) (f := (idx : Buf (Elt F) (idxLoc d))) (S := Finset.univ) (Finset.subset_univ (lstK L t).view.set)).1 $$ Hi
  icases Hib with ⟨Hib, Hir⟩
  ihave Hob' := (Entails.of_eq (show (outLoc d ↦[(outK L t).view.set]{fullShare} fo : sProp 𝕄)
      = (outK L t).view.loc (thr d L) ↦[(outK L t).view.set]{fullShare} fo from rfl)) $$ Hob
  ihave Hib' := (Entails.of_eq (show ((idxV).view.loc (thr d L) ↦[(lstK L t).view.set]{q} (idx : Buf (Elt F) (idxLoc d)) : sProp 𝕄)
      = (lstK L t).view.loc (thr d L) ↦[(lstK L t).view.set]{q} (idx : Buf (Elt F) (idxLoc d)) from rfl)) $$ Hib
  sl_exec (disch := exact View.amount_pos _ _ (show 0 < S512.numel by decide))
  ihave Hxs := (pointsTo_split_subset (q := q) (f := (tab : Buf (Elt F) (tabLoc d))) (S := Finset.univ) (Finset.subset_univ (tabK).view.set)).1 $$ Hx
  icases Hxs with ⟨Hxs, Hxr⟩
  have hrs : (rowV).view.set = Finset.univ := View.set_whole _
  have hss : (lstV).view.set = Finset.univ := View.set_whole _
  ihave Hr'' := (Entails.of_eq (show ((rowV).view.loc (thr d L) ↦{fullShare} fr : sProp 𝕄)
      = (rowV).view.loc (thr d L) ↦[(rowV).view.set]{fullShare} fr by rw [hrs])) $$ Hr
  ihave Hs'' := (Entails.of_eq (show ((lstV).view.loc (thr d L) ↦{fullShare} View.write (Elt F) (lstV).view fs (trip.sl.dma0 L idx t) Finset.univ : sProp 𝕄)
      = (lstV).view.loc (thr d L) ↦[(lstV).view.set]{fullShare} View.write (Elt F) (lstV).view fs (trip.sl.dma0 L idx t) Finset.univ
      by rw [hss])) $$ Hs
  iapply (SparseCore.wp_indirectGatherLocal countersEmb 𝒱₀ (thr d L) none (hg := gathers_S16384x128_S512x128) (default : HIx 1)
      (rowV).view.dmaCredit (rowCredit _) (by decide) (inb_of_range d L idx hin t fs _ rfl)) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (thr d L) none (default : HIx 1) (rfl : (rowV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemA, HO⟩
  ihave Hx' := (pointsTo_split_subset (ℓ := tabLoc d) (I := (tabK).view.set) (q := q) (f := (tab : Buf (Elt F) (tabLoc d))) (S := Finset.univ) (Finset.subset_univ (tabK).view.set)).2 $$ [Hxs Hxr]; · isplitl [Hxs] <;> iassumption
  ihave Hr3 := (Entails.of_eq (show ((rowV).view.loc (thr d L) ↦[(rowV).view.set]{fullShare} _ : sProp 𝕄)
      = (rowV).view.loc (thr d L) ↦{fullShare} _ by rw [hrs])) $$ Hr'
  ihave Hs3 := (Entails.of_eq (show ((lstV).view.loc (thr d L) ↦[(lstV).view.set]{fullShare} _ : sProp 𝕄)
      = (lstV).view.loc (thr d L) ↦{fullShare} _ by rw [hss])) $$ Hs'
  sl_exec (disch := exact View.amount_pos _ _ (show 0 < S512x128.numel by decide))
  sl_step
  isplitr; · iexact Hmw
  isplitl [Hir]; · iexact Hir
  isplitl [Hx']; · iexact Hx'
  isplitl [Hor Hob']
  · iexists ((outK L t).view.set.piecewise ((outK L t).view.writes (Elt F) fo [⟨Rect.whole S512x128, trip.sl.dma0_1 d L tab idx hin t fs fr⟩]) fo)
    isplitr
    · ipureintro; intro j hj hlt
      by_cases hm : j ∈ (outK L t).view.set
      · rw [Finset.piecewise_eq_of_mem _ _ _ hm]
        obtain ⟨x, -, rfl⟩ := Finset.mem_map.mp hm
        refine (writes_outK L t fo _ x).trans ?_
        refine Eq.trans ?_ (payload_eq d L tab idx hin t fs _ rfl (show S512.numel = S512x128.size gathers_S16384x128_S512x128.axis' from rfl) (inb_of_range d L idx hin t fs _ rfl) x)
        show (rowV).view.read (Elt F) (View.write (Elt F) (rowV).view fr _ Finset.univ) x = _
        rw [View.read_write_univ]
      · rw [Finset.piecewise_eq_of_notMem _ _ _ hm]
        refine hfo j hj ?_
        rw [mem_outK] at hm
        rw [mem_taskSet] at hj
        unfold row0 at hm hlt ⊢
        omega
    · iapply (pointsTo_join_subset (ℓ := outLoc d) (outK_subset L t))
      isplitl [Hob']; · iexact Hob'
      iexact Hor
  isplitl [Hs3]; · iexists _; iexact Hs3
  isplitl [Hr3]; · iexists _; iexact Hr3
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The task -/

set_option maxHeartbeats 4000000 in
/-- The task: from its share of the list and of the table and its rows of the result at anything, to the same with its
    rows at `gathered`. -/
theorem task (hin : ∀ j, (idx j).toNat < 16384) (hO : ∀ g, O g none = 0) :
    (iprop(levAts (K (F := F)).L (K (F := F)).lev ∗ emp
        ∗ ((idxLoc d ↦{q} (idx : Buf (Elt F) (idxLoc d))) ∗ (tabLoc d ↦{q} (tab : Buf (Elt F) (tabLoc d)))
          ∗ ∃ f : Buf (Elt F) (outLoc d), outLoc d ↦[taskSet (L 0).val (L 1).val]{fullShare} f)
        ∗ scopedBufs (thr d L) ∗ scopedSems0 (thr d L) ∗ owes (thr d L) O W) : sProp 𝕄)
      ⊢ wp frame (wpE (defs₀ (F := F)) 𝒱₀ (thr d L) none) Set.univ
          (cc1__gather_tec L tabV (Memref.isWhole_whole _) idxV (Memref.isWhole_whole _) outV (Memref.isWhole_whole _)
            lstV (Memref.isWhole_whole _) rowV (Memref.isWhole_whole _) cc1_scratch2 cc1_scoped0 cc1_scoped1)
          fun _ => iprop(((idxLoc d ↦{q} (idx : Buf (Elt F) (idxLoc d))) ∗ (tabLoc d ↦{q} (tab : Buf (Elt F) (tabLoc d)))
              ∗ outLoc d ↦[taskSet (L 0).val (L 1).val]{fullShare} (gathered tab idx : Buf (Elt F) (outLoc d)))
            ∗ scopedBufs (thr d L) ∗ scopedSems0 (thr d L)
            ∗ ∃ W', ⌜∀ p ∈ W', p ∈ W ∨ p.2 = none⌝ ∗ owes (thr d L) O W') := by
  simp only [cc1__gather_tec_eq_skeleton]; unfold cc1__gather_tec_skel
  rw [(K (F := F)).scopedBufs_V facts d (cV L) (jV L), SparseCore.Cfg.scopedSems0_V (Val := Elt F) d (cV L) (jV L), ownSems0_task, ownBufs_task]
  iintro ⟨#Hlv, -, ⟨Hi, Hx, ⟨%fo, Ho⟩⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (thr d L) (default : HIx 1) O from
    (K (F := F)).mayWaits_none (thr := thr d L) hO) $$ Hlv
  sl_for (inv (F := F) d L tab idx q O W) $$ [Hi Hx Ho Hs Hr HsemA HsemB HsemC HO]
  case region => exact fun k acc => trip d L tab idx q O W hin k acc
  · unfold inv
    isplitr; · iexact Hmw
    isplitl [Hi]; · iexact Hi
    isplitl [Hx]; · iexact Hx
    isplitl [Ho]
    · iexists fo; isplitr
      · ipureintro; intro j hj hlt
        rw [mem_taskSet] at hj
        unfold row0 at hlt
        omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hi, Hx, ⟨%f, %hf, Ho⟩, Hs, Hr, HsemA, HsemB, HsemC, HO⟩
  sl_exec
  sl_step
  isplitl [Hi Hx Ho]
  · isplitl [Hi]; · iexact Hi
    isplitl [Hx]; · iexact Hx
    iapply (Entails.of_eq (pointsTo_congr (ℓ := outLoc d) (q := fullShare) (f := f) (g := (gathered tab idx : Buf (Elt F) (outLoc d)))
      (I := taskSet (L 0).val (L 1).val) fun j hj => hf j hj (by
        rw [mem_taskSet] at hj
        have h32 : Scf.trips k1_t1_loop.lb k1_t1_loop.ub k1_t1_loop.st = 32 := trips_eq
        have hc := core_lt L
        have hs := sub_lt L
        unfold row0
        omega)))
    iexact Ho
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HO

end Tile

end Cert.Proof.Knn

end
-- ==== Proof.Split.lean ====
/-
  What the SparseCore call's handshakes carry, and how the call's operands are split over the two SparseCores and the
  sixteen subcores of each: the list and the table as read shares, the result by the blocks of rows each task writes. Each
  task brings its block back holding `gathered`, so the pieces join to the whole result at one function.
-/
module

public import proofs.«01_k».proof.Proof.Tile

@[expose] public section

set_option maxRecDepth 16384

noncomputable section

namespace Cert.Proof.Knn

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (tab : Dev nD → S16384x128.Idx → Elt F .f32) (idx : Dev nD → S524288.Idx → Elt F .i32)

/-! ## What the handshakes carry -/

/-- The share SparseCore `c` reads with. -/
abbrev coreShare (c : Fin 2) : PosShare TreeShare := pieceOf fullShare 2 (by decide) c

/-- The list and the table at share `q` on device `d`. -/
def opsPts (d : Dev nD) (q : PosShare TreeShare) : sProp 𝕄 :=
  iprop((idxLoc d ↦{q} (idx d : Buf (Elt F) (idxLoc d))) ∗ (tabLoc d ↦{q} (tab d : Buf (Elt F) (tabLoc d))))
instance (d : Dev nD) (q : PosShare TreeShare) : BI.Storable (upEmb : UEmb _ 𝕄) (opsPts tab idx d q) := by
  unfold opsPts; infer_instance

/-- The rows `I` of the result, at anything; at `gathered`. -/
abbrev outAny (d : Dev nD) (I : Finset S524288x128.Idx) : sProp 𝕄 := iprop(∃ f : Buf (Elt F) (outLoc d), outLoc d ↦[I]{fullShare} f)
abbrev outDone (d : Dev nD) (I : Finset S524288x128.Idx) : sProp 𝕄 :=
  outLoc d ↦[I]{fullShare} (gathered (tab d) (idx d) : Buf (Elt F) (outLoc d))

def P : (K (F := F)).Pay (nD := nD) (Val := Elt F) (Name := ℕ) (U := UU) where
  st := fun q d c => match q with
    | 0 => iprop(opsPts tab idx d (coreShare (Fin.cast nCore_zero c)) ∗ outAny d (coreSet c.val))
  dn := fun q d c => match q with
    | 0 => iprop(opsPts tab idx d (coreShare (Fin.cast nCore_zero c)) ∗ outDone tab idx d (coreSet c.val))
  go := fun q d c i => match q with
    | 0 => iprop(opsPts tab idx d (shareOf (Fin.cast nCore_zero c) (Fin.cast nSub_zero i)) ∗ outAny d (taskSet c.val i.val))
  td := fun q d c i => match q with
    | 0 => iprop(opsPts tab idx d (shareOf (Fin.cast nCore_zero c) (Fin.cast nSub_zero i)) ∗ outDone tab idx d (taskSet c.val i.val))
  x := fun _ _ => iprop(emp)

instance P_storable : (P (F := F) tab idx).IsStorable where
  st q d c := match q with
    | 0 => (inferInstance : BI.Storable (upEmb : UEmb _ 𝕄) iprop(opsPts tab idx d (coreShare (Fin.cast nCore_zero c)) ∗ outAny d (coreSet c.val)))
  dn q d c := match q with
    | 0 => (inferInstance : BI.Storable (upEmb : UEmb _ 𝕄) iprop(opsPts tab idx d (coreShare (Fin.cast nCore_zero c)) ∗ outDone tab idx d (coreSet c.val)))
  go q d c i := match q with
    | 0 => (inferInstance : BI.Storable (upEmb : UEmb _ 𝕄)
      iprop(opsPts tab idx d (shareOf (Fin.cast nCore_zero c) (Fin.cast nSub_zero i)) ∗ outAny d (taskSet c.val i.val)))
  td q d c i := match q with
    | 0 => (inferInstance : BI.Storable (upEmb : UEmb _ 𝕄)
      iprop(opsPts tab idx d (shareOf (Fin.cast nCore_zero c) (Fin.cast nSub_zero i)) ∗ outDone tab idx d (taskSet c.val i.val)))

/-- The list's entries name rows of the table. -/
def InRange : Prop := ∀ d j, (idx d j).toNat < 16384

/-! ## The task's obligation -/

/-- The coordinates of the task on SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_tec (coordsV c s)
          (Memref.whole main_v9_scv) (Memref.isWhole_whole _) (Memref.whole main_v16_scv) (Memref.isWhole_whole _)
          (Memref.whole main_v17_scv) (Memref.isWhole_whole _) (Memref.whole cc1_scratch0) (Memref.isWhole_whole _)
          (Memref.whole cc1_scratch1) (Memref.isWhole_whole _) cc1_scratch2 cc1_scoped0 cc1_scoped1) ⟨⟩ c s := rfl

/-- The task with its operands paired as the handshakes carry them. -/
theorem task_paired (d : Dev nD) (L : grid1.Coords) (q : PosShare TreeShare) (O : CellTallies nD τ sig (HIx 1)) (W : Waits sig (HIx 1))
    (hin : ∀ j, (idx d j).toNat < 16384) (hO : ∀ g, O g none = 0) :
    (iprop(levAts (K (F := F)).L (K (F := F)).lev ∗ emp
        ∗ (opsPts tab idx d q ∗ outAny d (taskSet (L 0).val (L 1).val))
        ∗ scopedBufs (thr d L) ∗ scopedSems0 (thr d L) ∗ owes (thr d L) O W) : sProp 𝕄)
      ⊢ wp frame (wpE (defs₀ (F := F)) 𝒱₀ (thr d L) none) Set.univ
          (cc1__gather_tec L tabV (Memref.isWhole_whole _) idxV (Memref.isWhole_whole _) outV (Memref.isWhole_whole _)
            lstV (Memref.isWhole_whole _) rowV (Memref.isWhole_whole _) cc1_scratch2 cc1_scoped0 cc1_scoped1) (fun _ => iprop((opsPts tab idx d q ∗ outDone tab idx d (taskSet (L 0).val (L 1).val))
        ∗ scopedBufs (thr d L) ∗ scopedSems0 (thr d L)
        ∗ ∃ W', ⌜∀ p ∈ W', p ∈ W ∨ p.2 = none ∨ p.2 = some (0 : Fin 1)⌝ ∗ owes (thr d L) O W')) := by
  refine BI.Entails.trans ?_ ((task d L (tab d) (idx d) q O W hin hO).trans (wp_mono frame _ _ fun _ => ?_))
  · unfold opsPts
    show (_ : sProp 𝕄) ⊢ _
    iintro ⟨Hlv, Hx, ⟨⟨Hi, Ht⟩, Ho⟩, Hb, Hs, HO⟩
    isplitl [Hlv]; · iexact Hlv
    isplitl [Hx]; · iexact Hx
    isplitl [Hi Ht Ho]
    · isplitl [Hi]; · iexact Hi
      isplitl [Ht]; · iexact Ht
      iexact Ho
    isplitl [Hb]; · iexact Hb
    isplitl [Hs]; · iexact Hs
    iexact HO
  · unfold opsPts
    iintro ⟨⟨Hi, Ht, Ho⟩, Hb, Hs, %W', %hW', HO⟩
    isplitl [Hi Ht Ho]
    · isplitr [Ho]
      · isplitl [Hi]; · iexact Hi
        iexact Ht
      iexact Ho
    isplitl [Hb]; · iexact Hb
    isplitl [Hs]; · iexact Hs
    iexists W'; isplitr
    · ipureintro; exact fun p hp => (hW' p hp).imp_right Or.inl
    · iexact HO

theorem tileObl (hin : InRange (F := F) idx) : (K (F := F)).TileObl (D (F := F)) 𝒱 (P tab idx) v₀ 0 := by
  intro d c i O W hO _ _
  simp only [show (P tab idx).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_paired tab idx d (coordsV ⟨_, hci.1⟩ ⟨_, hci.2⟩) _ O W (hin d) hO

/-! ## The split over the cores and over a core's tasks -/

theorem tasks_disjoint (c : Fin 2) : ∀ i ∈ (Finset.univ : Finset (Fin 16)), ∀ j ∈ (Finset.univ : Finset (Fin 16)), i ≠ j →
    Disjoint (taskSet c.val i.val) (taskSet c.val j.val) := by
  intro i _ j _ h
  refine Finset.disjoint_left.mpr fun x hx hy => h (Fin.ext ?_)
  rw [mem_taskSet] at hx hy
  omega
theorem tasks_cover (c : Fin 2) : (Finset.univ : Finset (Fin 16)).biUnion (fun i => taskSet c.val i.val) = coreSet c.val := by
  ext j
  simp only [Finset.mem_biUnion, Finset.mem_univ, true_and, mem_taskSet, mem_coreSet]
  have hj : (j 0).val < 524288 := (j 0).isLt
  have hc := c.isLt
  constructor
  · rintro ⟨i, hi⟩; omega
  · intro h
    exact ⟨⟨(j 0).val / 16384 / 2, by omega⟩, by show (j 0).val / 16384 = 2 * ((j 0).val / 16384 / 2) + c.val; omega⟩
theorem cores_disjoint : ∀ i ∈ (Finset.univ : Finset (Fin 2)), ∀ j ∈ (Finset.univ : Finset (Fin 2)), i ≠ j →
    Disjoint (coreSet i.val) (coreSet j.val) := by
  intro i _ j _ h
  refine Finset.disjoint_left.mpr fun x hx hy => h (Fin.ext ?_)
  rw [mem_coreSet] at hx hy
  omega
theorem cores_cover : (Finset.univ : Finset (Fin 2)).biUnion (fun c => coreSet c.val) = Finset.univ := by
  ext j
  simp only [Finset.mem_biUnion, Finset.mem_univ, true_and, mem_coreSet, iff_true]
  exact ⟨⟨(j 0).val / 16384 % 2, Nat.mod_lt _ (by decide)⟩, rfl⟩

theorem out_tasks (d : Dev nD) (c : Fin 2) (f : Buf (Elt F) (outLoc d)) :
    (outLoc d ↦[coreSet c.val]{fullShare} f : sProp 𝕄) = bigSep Finset.univ fun i : Fin 16 => outLoc d ↦[taskSet c.val i.val]{fullShare} f := by
  rw [← tasks_cover c]
  exact pointsTo_biUnion Finset.univ (ℓ := outLoc d) (fun i : Fin 16 => taskSet c.val i.val) (tasks_disjoint c)
theorem out_cores (d : Dev nD) (f : Buf (Elt F) (outLoc d)) :
    (outLoc d ↦{fullShare} f : sProp 𝕄) = bigSep Finset.univ fun c : Fin 2 => outLoc d ↦[coreSet c.val]{fullShare} f := by
  rw [← pointsTo_biUnion Finset.univ (ℓ := outLoc d) (fun c : Fin 2 => coreSet c.val) cores_disjoint, cores_cover]

theorem ops_split (d : Dev nD) (q : PosShare TreeShare) {o : ℕ} (ho : 0 < o) :
    opsPts (F := F) tab idx d q = bigSep Finset.univ fun i : Fin o => opsPts tab idx d (pieceOf q o ho i) := by
  unfold opsPts
  rw [bigSep_sep']
  rw [← pointsTo_piecesOf (Finset.univ : Finset (Idx (idxLoc d))) _ ho q, ← pointsTo_piecesOf (Finset.univ : Finset (Idx (tabLoc d))) _ ho q]

theorem out_any_of (d : Dev nD) (I : Finset S524288x128.Idx) (f : Buf (Elt F) (outLoc d)) :
    (outLoc d ↦[I]{fullShare} f : sProp 𝕄) ⊢ outAny d I := by
  iintro H; iexists f; iexact H

theorem out_tasks_any (d : Dev nD) (c : Fin 2) (f : Buf (Elt F) (outLoc d)) :
    (outLoc d ↦[coreSet c.val]{fullShare} f : sProp 𝕄) ⊢ bigSep Finset.univ fun i : Fin 16 => outAny d (taskSet c.val i.val) := by
  rw [out_tasks]; exact bigSep_mono fun i _ => out_any_of d _ f
theorem out_cores_any (d : Dev nD) (f : Buf (Elt F) (outLoc d)) :
    (outLoc d ↦{fullShare} f : sProp 𝕄) ⊢ bigSep Finset.univ fun c : Fin 2 => outAny d (coreSet c.val) := by
  rw [out_cores]; exact bigSep_mono fun c _ => out_any_of d _ f

theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem over_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's operands dealt to its tasks, and taken back joined. -/
theorem vecSplit : (K (F := F)).VecSplit' (P tab idx) 0 := by
  intro d c
  show iprop(opsPts tab idx d (coreShare (Fin.cast nCore_zero c)) ∗ outAny d (coreSet (Fin.cast nCore_zero c).val)) ⊢ |={Set.univ}=> iprop(
      (bigSep Finset.univ fun i : Fin ((K (F := F)).nSub 0) =>
        iprop(opsPts tab idx d (pieceOf (coreShare (Fin.cast nCore_zero c)) 16 (by decide) (Fin.cast nSub_zero i))
          ∗ outAny d (taskSet (Fin.cast nCore_zero c).val (Fin.cast nSub_zero i).val)))
      ∗ ((bigSep Finset.univ fun i : Fin ((K (F := F)).nSub 0) =>
          iprop(opsPts tab idx d (pieceOf (coreShare (Fin.cast nCore_zero c)) 16 (by decide) (Fin.cast nSub_zero i))
            ∗ outDone tab idx d (taskSet (Fin.cast nCore_zero c).val (Fin.cast nSub_zero i).val)))
          -∗ iprop(opsPts tab idx d (coreShare (Fin.cast nCore_zero c)) ∗ outDone tab idx d (coreSet (Fin.cast nCore_zero c).val))))
  generalize (Fin.cast nCore_zero c : Fin 2) = c'
  rw [over_tasks (F := F) (fun i => iprop(opsPts tab idx d (pieceOf (coreShare c') 16 (by decide) i) ∗ outAny d (taskSet c'.val i.val))),
    over_tasks (F := F) (fun i => iprop(opsPts tab idx d (pieceOf (coreShare c') 16 (by decide) i) ∗ outDone tab idx d (taskSet c'.val i.val))),
    bigSep_sep', bigSep_sep', ← ops_split tab idx d (coreShare c') (o := 16) (by decide)]
  unfold outDone
  rw [← out_tasks]
  iintro ⟨Hop, %f, Ho⟩; imodintro
  isplitl [Hop Ho]
  · isplitl [Hop]; · iexact Hop
    iapply (out_tasks_any d c' f); iexact Ho
  iintro ⟨Hop, Ho⟩
  isplitl [Hop]; · iexact Hop
  iexact Ho

/-- The whole operands dealt to the two SparseCores: what the call takes, -/
theorem st_intro (d : Dev nD) (f : Buf (Elt F) (outLoc d)) :
    iprop(opsPts tab idx d fullShare ∗ outLoc d ↦{fullShare} f)
      ⊢ (bigSep Finset.univ fun c : Fin ((K (F := F)).nCore 0) => (P tab idx).st 0 d c : sProp 𝕄) := by
  show _ ⊢ (bigSep Finset.univ fun c : Fin ((K (F := F)).nCore 0) =>
    iprop(opsPts tab idx d (coreShare (Fin.cast nCore_zero c)) ∗ outAny d (coreSet (Fin.cast nCore_zero c).val)))
  rw [over_cores (F := F) (fun c => iprop(opsPts tab idx d (coreShare c) ∗ outAny d (coreSet c.val))), bigSep_sep', ← ops_split tab idx d fullShare (o := 2) (by decide)]
  iintro ⟨Hop, Ho⟩
  isplitl [Hop]; · iexact Hop
  iapply (out_cores_any d f); iexact Ho
/-- and what it brings back. -/
theorem dn_elim (d : Dev nD) :
    (bigSep Finset.univ fun c : Fin ((K (F := F)).nCore 0) => (P tab idx).dn 0 d c : sProp 𝕄)
      ⊢ iprop(opsPts tab idx d fullShare ∗ outLoc d ↦{fullShare} (gathered (tab d) (idx d) : Buf (Elt F) (outLoc d))) := by
  show (bigSep Finset.univ fun c : Fin ((K (F := F)).nCore 0) =>
    iprop(opsPts tab idx d (coreShare (Fin.cast nCore_zero c)) ∗ outDone tab idx d (coreSet (Fin.cast nCore_zero c).val))) ⊢ _
  rw [over_cores (F := F) (fun c => iprop(opsPts tab idx d (coreShare c) ∗ outDone tab idx d (coreSet c.val))), bigSep_sep', ← ops_split tab idx d fullShare (o := 2) (by decide), out_cores]

end Cert.Proof.Knn

end
-- ==== Proof.Main.lean ====
/-
  The host program of the kernel and its run: the host operations, the top-k call as a region, the gather as a
  SparseCore call, the contents of the arrays after each, and the launch. The run is for any float values; it asks only
  that the row numbers computed from the launch memory name rows of the table.
-/
module

public import proofs.«01_k».proof.Proof.Region
public import proofs.«01_k».proof.Proof.Split

@[expose] public section

set_option maxRecDepth 16384

noncomputable section

namespace Cert.Proof.Knn

open Cert.KernelIdeal Cert.KernelIdeal.Gen

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local irreducible] topBlk topAll

/-! ## The host operations -/

/-- The host operations before the top-k call, -/
abbrev opsA : List (HloOp τ sig (Elt F)) :=
  [StableHlo.reshape main_arg1 main_v0 (rfl : (.f32 : EltTy) = .f32) shapeCasts_S4x32x3x4096_S4x96x4096,
   StableHlo.unary main_v0 main_v1 ((transpose S4x4096x96 [0, 2, 1] · transposes_S4x96x4096_S4x4096x96_0_2_1) : (⟨S4x96x4096, .f32⟩ : BufTy).Contents (Elt F) → (⟨S4x4096x96, .f32⟩ : BufTy).Contents (Elt F)),
   StableHlo.nullary main_cst (constant S_ .f32 0x00000000#32),
   StableHlo.unary main_cst main_v2 (broadcastInDim S4x4096x32 ![] bcast_S_S4x4096x32 : (⟨S_, .f32⟩ : BufTy).Contents (Elt F) → (⟨S4x4096x32, .f32⟩ : BufTy).Contents (Elt F)),
   StableHlo.binary main_v1 main_v2 main_v3 ((fun a b => concatenate S4x4096x128 2 [⟨S4x4096x96, a⟩, ⟨S4x4096x32, b⟩] concatenates_S4x4096x96_S4x4096x32_S4x4096x128_d2) : (⟨S4x4096x96, .f32⟩ : BufTy).Contents (Elt F) → (⟨S4x4096x32, .f32⟩ : BufTy).Contents (Elt F) → (⟨S4x4096x128, .f32⟩ : BufTy).Contents (Elt F)),
   StableHlo.unary main_v3 main_v4 ((transpose S4x128x4096 [0, 2, 1] · transposes_S4x4096x128_S4x128x4096_0_2_1) : (⟨S4x4096x128, .f32⟩ : BufTy).Contents (Elt F) → (⟨S4x128x4096, .f32⟩ : BufTy).Contents (Elt F))]
/-- between it and the gather, -/
abbrev opsB : List (HloOp τ sig (Elt F)) :=
  [StableHlo.nullary main_cst_0 (constant S_ .f32 0x00000000#32),
   StableHlo.unary main_cst_0 main_v6 (broadcastInDim S4x4096x29 ![] bcast_S_S4x4096x29 : (⟨S_, .f32⟩ : BufTy).Contents (Elt F) → (⟨S4x4096x29, .f32⟩ : BufTy).Contents (Elt F)),
   StableHlo.binary main_arg0 main_v6 main_v7 ((fun a b => concatenate S4x4096x32 2 [⟨S4x4096x3, a⟩, ⟨S4x4096x29, b⟩] concatenates_S4x4096x3_S4x4096x29_S4x4096x32_d2) : (⟨S4x4096x3, .f32⟩ : BufTy).Contents (Elt F) → (⟨S4x4096x29, .f32⟩ : BufTy).Contents (Elt F) → (⟨S4x4096x32, .f32⟩ : BufTy).Contents (Elt F)),
   StableHlo.binary main_v1 main_v7 main_v8 ((fun a b => concatenate S4x4096x128 2 [⟨S4x4096x96, a⟩, ⟨S4x4096x32, b⟩] concatenates_S4x4096x96_S4x4096x32_S4x4096x128_d2) : (⟨S4x4096x96, .f32⟩ : BufTy).Contents (Elt F) → (⟨S4x4096x32, .f32⟩ : BufTy).Contents (Elt F) → (⟨S4x4096x128, .f32⟩ : BufTy).Contents (Elt F)),
   StableHlo.reshape main_v8 main_v9 (rfl : (.f32 : EltTy) = .f32) shapeCasts_S4x4096x128_S16384x128,
   StableHlo.nullary main_v10 (iotaInDim S4 32 0),
   StableHlo.nullary main_c (constantI S_ 32 4096#32),
   StableHlo.unary main_c main_v11 (broadcastInDim S4 ![] bcast_S_S4 : (⟨S_, .i32⟩ : BufTy).Contents (Elt F) → (⟨S4, .i32⟩ : BufTy).Contents (Elt F)),
   StableHlo.binary main_v10 main_v11 main_v12 (muli : (⟨S4, .i32⟩ : BufTy).Contents (Elt F) → (⟨S4, .i32⟩ : BufTy).Contents (Elt F) → (⟨S4, .i32⟩ : BufTy).Contents (Elt F)),
   StableHlo.unary main_v12 main_v13 (broadcastInDim S4x1x1 ![0] bcast_S4_S4x1x1_0 : (⟨S4, .i32⟩ : BufTy).Contents (Elt F) → (⟨S4x1x1, .i32⟩ : BufTy).Contents (Elt F)),
   StableHlo.unary main_v13 main_v14 (broadcastInDim S4x4096x32 ![0, 1, 2] bcast_S4x1x1_S4x4096x32_0_1_2 : (⟨S4x1x1, .i32⟩ : BufTy).Contents (Elt F) → (⟨S4x4096x32, .i32⟩ : BufTy).Contents (Elt F)),
   StableHlo.binary main_v5 main_v14 main_v15 (addi : (⟨S4x4096x32, .i32⟩ : BufTy).Contents (Elt F) → (⟨S4x4096x32, .i32⟩ : BufTy).Contents (Elt F) → (⟨S4x4096x32, .i32⟩ : BufTy).Contents (Elt F)),
   StableHlo.reshape main_v15 main_v16 (rfl : (.i32 : EltTy) = .i32) shapeCasts_S4x4096x32_S524288]
/-- and after the gather. -/
abbrev opsC : List (HloOp τ sig (Elt F)) :=
  [StableHlo.reshape main_v17 main_v18 (rfl : (.f32 : EltTy) = .f32) shapeCasts_S524288x128_S4x4096x32x128,
   StableHlo.unary main_v18 main_v19 ((extractStridedSlice S4x4096x32x96 ![0, 0, 0, 0] · slices_S4x4096x32x128_S4x4096x32x96_0_0_0_0) : (⟨S4x4096x32x128, .f32⟩ : BufTy).Contents (Elt F) → (⟨S4x4096x32x96, .f32⟩ : BufTy).Contents (Elt F)),
   StableHlo.unary main_v19 main_v20 ((transpose S4x96x4096x32 [0, 3, 1, 2] · transposes_S4x4096x32x96_S4x96x4096x32_0_3_1_2) : (⟨S4x4096x32x96, .f32⟩ : BufTy).Contents (Elt F) → (⟨S4x96x4096x32, .f32⟩ : BufTy).Contents (Elt F)),
   StableHlo.reshape main_v20 main_v21 (rfl : (.f32 : EltTy) = .f32) shapeCasts_S4x96x4096x32_S4x32x3x4096x32,
   StableHlo.unary main_v18 main_v22 ((extractStridedSlice S4x4096x32x3 ![0, 0, 0, 96] · slices_S4x4096x32x128_S4x4096x32x3_0_0_0_96) : (⟨S4x4096x32x128, .f32⟩ : BufTy).Contents (Elt F) → (⟨S4x4096x32x3, .f32⟩ : BufTy).Contents (Elt F)),
   StableHlo.unary main_v21 main_v23 ((extractStridedSlice S4x32x3x4096x1 ![0, 0, 0, 0, 0] · slices_S4x32x3x4096x32_S4x32x3x4096x1_0_0_0_0_0) : (⟨S4x32x3x4096x32, .f32⟩ : BufTy).Contents (Elt F) → (⟨S4x32x3x4096x1, .f32⟩ : BufTy).Contents (Elt F))]

theorem main_eq (d : Dev nD) : main (F := F) d = StableHlo.seq (opsA (F := F)) >>= fun _ =>
    Prog.lift (.customCall (SparseCore.inner (Pipeline.entry 0)) ()) >>= fun _ =>
    StableHlo.seq (opsB (F := F)) >>= fun _ => (K (F := F)).run d 0 >>= fun _ => StableHlo.seq (opsC (F := F)) >>= fun _ => pure ⟨⟩ := by
  simp only [StableHlo.seq_bind_seqK]
  rfl

/-! ## The arrays' contents after each part -/

/-- The device's arrays at the launch memory, -/
abbrev W0 (m : (ℓ : Loc nD τ sig) → Buf (Elt F) ℓ) (d : Dev nD) : Valuation τ sig (Elt F) := fun b => m (d, b)
/-- before the top-k call, -/
def W1 (m : (ℓ : Loc nD τ sig) → Buf (Elt F) ℓ) (d : Dev nD) : Valuation τ sig (Elt F) := StableHlo.after opsA (W0 m d)
/-- after it, -/
def W2 (m : (ℓ : Loc nD τ sig) → Buf (Elt F) ℓ) (d : Dev nD) : Valuation τ sig (Elt F) :=
  Function.update (W1 m d) (Proc.devRef .tc main_v5) (topAll (W1 m d (Proc.devRef .tc main_v3)) (W1 m d (Proc.devRef .tc main_v4)))
/-- before the gather, -/
def W3 (m : (ℓ : Loc nD τ sig) → Buf (Elt F) ℓ) (d : Dev nD) : Valuation τ sig (Elt F) := StableHlo.after opsB (W2 m d)
/-- after it, -/
def W4 (m : (ℓ : Loc nD τ sig) → Buf (Elt F) ℓ) (d : Dev nD) : Valuation τ sig (Elt F) :=
  Function.update (W3 m d) (Proc.devRef .tc main_v17) (gathered (W3 m d (Proc.devRef .tc main_v9)) (W3 m d (Proc.devRef .tc main_v16)))
/-- and at the end. -/
def W5 (m : (ℓ : Loc nD τ sig) → Buf (Elt F) ℓ) (d : Dev nD) : Valuation τ sig (Elt F) := StableHlo.after opsC (W4 m d)

/-- The gather's table and its row numbers, of the launch memory. -/
def tabOf (m : (ℓ : Loc nD τ sig) → Buf (Elt F) ℓ) (d : Dev nD) : S16384x128.Idx → Elt F .f32 := W3 m d (Proc.devRef .tc main_v9)
def idxOf (m : (ℓ : Loc nD τ sig) → Buf (Elt F) ℓ) (d : Dev nD) : S524288.Idx → Elt F .i32 := W3 m d (Proc.devRef .tc main_v16)

/-! ## The three arrays of the gather among the others -/

variable (m : (ℓ : Loc nD τ sig) → Buf (Elt F) ℓ) (ρ : Dev nD → PrngReg)

/-- The gather's arrays. -/
def scRefs : Finset (DevRef τ sig) := {Proc.devRef .tc main_v16, Proc.devRef .tc main_v9, Proc.devRef .tc main_v17}

theorem scRefs_sub : scRefs ⊆ ucRefs := by decide +kernel

theorem held_sc (d : Dev nD) (W : Valuation τ sig (Elt F)) :
    (StableHlo.held (d : Thread nD τ) scRefs W : sProp 𝕄)
      = iprop((idxLoc d ↦{fullShare} W (Proc.devRef .tc main_v16)) ∗ (tabLoc d ↦{fullShare} W (Proc.devRef .tc main_v9))
          ∗ outLoc d ↦{fullShare} W (Proc.devRef .tc main_v17)) := by
  unfold StableHlo.held scRefs
  rw [SparseCore.bigSep_insert' (by decide), SparseCore.bigSep_insert' (by decide), bigSep_singleton]

theorem held_before (d : Dev nD) : (StableHlo.held (d : Thread nD τ) ucRefs (W3 m d) : sProp 𝕄)
    ⊢ iprop((opsPts (tabOf m) (idxOf m) d fullShare ∗ outLoc d ↦{fullShare} W3 m d (Proc.devRef .tc main_v17))
        ∗ StableHlo.held (d : Thread nD τ) (ucRefs \ scRefs) (W3 m d)) := by
  rw [StableHlo.held_sub_split (d : Thread nD τ) scRefs_sub, held_sc]
  unfold opsPts tabOf idxOf
  iintro ⟨⟨Hi, Ht, Ho⟩, Hr⟩
  isplitr [Hr]
  · isplitr [Ho]
    · isplitl [Hi] <;> iassumption
    iexact Ho
  iexact Hr

theorem W4_ne (d : Dev nD) (b : DevRef τ sig) (h : b ≠ Proc.devRef .tc main_v17) : W4 m d b = W3 m d b := Function.update_of_ne h _ _
theorem W4_out (d : Dev nD) : W4 m d (Proc.devRef .tc main_v17) = gathered (tabOf m d) (idxOf m d) := Function.update_self _ _ _

theorem held_after (d : Dev nD) :
    iprop((opsPts (tabOf m) (idxOf m) d fullShare ∗ outLoc d ↦{fullShare} (gathered (tabOf m d) (idxOf m d) : Buf (Elt F) (outLoc d)))
        ∗ StableHlo.held (d : Thread nD τ) (ucRefs \ scRefs) (W3 m d))
      ⊢ (StableHlo.held (d : Thread nD τ) ucRefs (W4 m d) : sProp 𝕄) := by
  rw [StableHlo.held_sub_split (d : Thread nD τ) scRefs_sub, held_sc, W4_out,
    W4_ne m d (Proc.devRef .tc main_v16) (by decide), W4_ne m d (Proc.devRef .tc main_v9) (by decide),
    StableHlo.held_congr (d : Thread nD τ) (S := ucRefs \ scRefs) (V := W4 m d) (V' := W3 m d)
      fun b hb => W4_ne m d b fun h => (Finset.mem_sdiff.mp hb).2 (by rw [h]; decide)]
  unfold opsPts tabOf idxOf
  iintro ⟨⟨⟨Hi, Ht⟩, Ho⟩, Hr⟩
  isplitr [Hr]
  · isplitl [Hi]; · iexact Hi
    isplitl [Ht] <;> iassumption
  iexact Hr

theorem bufs_A : ∀ op ∈ opsA (F := F), op.bufs ⊆ ucRefs := by
  simp only [List.forall_mem_cons, List.not_mem_nil, false_implies, implies_true, and_true]
  refine ⟨?_, ?_, ?_, ?_, ?_, ?_⟩ <;>
    first | (rw [StableHlo.nullary_bufs]; decide +kernel) | (rw [StableHlo.unary_bufs]; decide +kernel) |
      (rw [StableHlo.binary_bufs]; decide +kernel) | (rw [StableHlo.reshape_bufs]; decide +kernel)
theorem bufs_B : ∀ op ∈ opsB (F := F), op.bufs ⊆ ucRefs := by
  simp only [List.forall_mem_cons, List.not_mem_nil, false_implies, implies_true, and_true]
  refine ⟨?_, ?_, ?_, ?_, ?_, ?_, ?_, ?_, ?_, ?_, ?_, ?_, ?_⟩ <;>
    first | (rw [StableHlo.nullary_bufs]; decide +kernel) | (rw [StableHlo.unary_bufs]; decide +kernel) |
      (rw [StableHlo.binary_bufs]; decide +kernel) | (rw [StableHlo.reshape_bufs]; decide +kernel)
theorem bufs_C : ∀ op ∈ opsC (F := F), op.bufs ⊆ ucRefs := by
  simp only [List.forall_mem_cons, List.not_mem_nil, false_implies, implies_true, and_true]
  refine ⟨?_, ?_, ?_, ?_, ?_, ?_⟩ <;>
    first | (rw [StableHlo.nullary_bufs]; decide +kernel) | (rw [StableHlo.unary_bufs]; decide +kernel) |
      (rw [StableHlo.binary_bufs]; decide +kernel) | (rw [StableHlo.reshape_bufs]; decide +kernel)
theorem fresh_A : ∀ op ∈ opsA (F := F), op.fresh = ∅ := by
  simp only [List.forall_mem_cons, List.not_mem_nil, false_implies, implies_true, and_true]
  exact ⟨rfl, rfl, rfl, rfl, rfl, rfl⟩
theorem fresh_B : ∀ op ∈ opsB (F := F), op.fresh = ∅ := by
  simp only [List.forall_mem_cons, List.not_mem_nil, false_implies, implies_true, and_true]
  exact ⟨rfl, rfl, rfl, rfl, rfl, rfl, rfl, rfl, rfl, rfl, rfl, rfl, rfl⟩
theorem fresh_C : ∀ op ∈ opsC (F := F), op.fresh = ∅ := by
  simp only [List.forall_mem_cons, List.not_mem_nil, false_implies, implies_true, and_true]
  exact ⟨rfl, rfl, rfl, rfl, rfl, rfl⟩

/-! ## The launch element of the ghost state -/

abbrev adm : (p : Fin 1) → (pcfgs (F := F) p).Adm := fun p => (cfgs p).toPCfg_adm

/-- The contents at the TensorCore's references. -/
abbrev atTc (W : Dev nD → Valuation τ sig (Elt F)) : (c : Dev nD) → (b : Ref sig .tc) → Buf (Elt F) ((c : Thread nD τ).loc b) :=
  fun c b => W c (Proc.devRef .tc b)

/-- The top-k call's region, from the contents before it to those after it; `Q` rides along. -/
def region (Q : Dev nD → sProp 𝕄) := reg (atTc (W1 m)) adm (atTc (W2 m)) Q
  (fun c => Function.update_self (Proc.devRef .tc main_v5) _ (W1 m c))
  (fun c b h => Function.update_of_ne (StableHlo.devRef_ne_of_ne h) _ (W1 m c))

def u₀ : UU := (initOf (K (F := F)).hsCells (K (F := F)).hsToks,
  (initOf (Pipeline.cells (Pipeline.pin (pcfgs (F := F)) adm) (nD := nD) (τ := τ) cellOf_inj)
    (Pipeline.launchToks (Pipeline.pin (pcfgs (F := F)) adm) (nD := nD) (τ := τ) cellOf_inj), 1))

/-- What each device's TensorCore is dealt of it: the region's cells and transfer tokens. -/
def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem u₀_split : (ownU (u₀ (F := F)) : sProp 𝕄) ⊢ iprop(BI.own (EH (initOf (K (F := F)).hsCells (K (F := F)).hsToks))
    ∗ BI.own ((EP (F := F)) (initOf (Pipeline.cells (Pipeline.pin (pcfgs (F := F)) adm) (nD := nD) (τ := τ) cellOf_inj)
      (Pipeline.launchToks (Pipeline.pin (pcfgs (F := F)) adm) (nD := nD) (τ := τ) cellOf_inj)))) := by
  unfold u₀ EP
  exact (ownU_pair _ _).trans (sep_mono_right ((own_pair_emb (A := UP) (B := Counters) (embR (A := UH) (B := UP × Counters)) _ _).trans sep_elim_left))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tabOf m) (idxOf m)).x q thr) := by
  iintro Hu
  ihave H := (u₀_split (F := F)) $$ Hu
  icases H with ⟨HH, HP⟩
  imod (Pipeline.fund_ghost (Pipeline.pin (pcfgs (F := F)) adm) (EP (F := F)) cellOf_inj) $$ HP with ⟨Hc, Ht⟩
  imodintro
  isplitl [HH]; · iexact HH
  isplitl [Hc Ht]
  · unfold G
    rw [bigSep_sep']
    isplitl [Hc]
    · rw [show (bigSep Finset.univ fun d : Dev nD => Pipeline.cellsGhost (Pipeline.pin (pcfgs (F := F)) adm) (EP (F := F)) 0 d)
        = bigSep Finset.univ fun d : Dev nD => bigSep Finset.univ fun p => Pipeline.cellsGhost (Pipeline.pin (pcfgs (F := F)) adm) (EP (F := F)) p d from
        bigSep_congr fun d _ => (bigSep_univ_of_subsingleton (Φ := fun p => Pipeline.cellsGhost (Pipeline.pin (pcfgs (F := F)) adm) (EP (F := F)) p d) (0 : Fin 1)).symm]
      iexact Hc
    · rw [show (bigSep Finset.univ fun d : Dev nD => Pipeline.toksInit (Pipeline.pin (pcfgs (F := F)) adm) (EP (F := F)) 0 d)
        = bigSep Finset.univ fun d : Dev nD => bigSep Finset.univ fun p => Pipeline.toksInit (Pipeline.pin (pcfgs (F := F)) adm) (EP (F := F)) p d from
        bigSep_congr fun d _ => (bigSep_univ_of_subsingleton (Φ := fun p => Pipeline.toksInit (Pipeline.pin (pcfgs (F := F)) adm) (EP (F := F)) p d) (0 : Fin 1)).symm]
      iexact Ht
  rw [show (bigSep Finset.univ fun thr : Thread nD τ => bigSep Finset.univ fun q : Fin 1 => (P (F := F) (tabOf m) (idxOf m)).x q thr)
    = bigSep Finset.univ fun _ => iprop(emp) from bigSep_congr fun _ _ => bigSep_univ_of_subsingleton (0 : Fin 1), bigSep_emp']
  iempintro

/-! ## The host program on a TensorCore -/

/-- The top-k call in the pipelines' own body table. -/
theorem wp_entry (d : Dev nD) (Q : PUnit → sProp 𝕄) :
    iprop(levAts (K (F := F)).L (K (F := F)).lev ∗ boundary (d.tc : Thread nD τ) ∗ StableHlo.held (d.tc : Thread nD τ) ucRefs (W1 m d) ∗ owesTc (F := F) d ∗ G (F := F) d
        ∗ ((boundary (d.tc : Thread nD τ) ∗ StableHlo.held (d.tc : Thread nD τ) ucRefs (W2 m d) ∗ owesTc (F := F) d) -∗ Q ⟨⟩))
      ⊢ wp frame (wpE (D (F := F)) 𝒱 (d.tc : Thread nD τ) none) Set.univ (.op (.customCall (Pipeline.entry 0) ()) .ret) Q := by
  have h := Pipeline.RegionSeg.wp (pcfgs (F := F)) adm (pdats (atTc (W1 m)) adm) none cellOf_inj (EP (F := F)) defs₀ 𝒱₀
    (K (F := F)).L (K (F := F)).lev (region m fun _ => iprop(emp)) d none (fun u hu => nomatch hu) .ret Q
  refine BI.Entails.trans ?_ h
  rw [show (region m fun _ => iprop(emp)).pre d = iprop(unscopedBufs d (fun b => W1 m d (Proc.devRef .tc b)) ∗ emp ∗ owesTc d) from rfl,
    show (region m fun _ => iprop(emp)).post d = iprop(unscopedBufs d (fun b => W2 m d (Proc.devRef .tc b)) ∗ emp ∗ owesTc d) from rfl,
    unscopedBufs_held, unscopedBufs_held]
  show (_ : sProp 𝕄) ⊢ _
  unfold G
  iintro ⟨Hl, Hb, Hh, HO, ⟨Hc, Ht⟩, Hk⟩
  isplitl [Hk]
  · iintro ⟨Hb, Hh, -, HO⟩
    rw [wp_ret]; imodintro
    iapply Hk
    isplitl [Hb]; · iexact Hb
    isplitl [Hh] <;> iassumption
  isplitl [Hb]; · iexact Hb
  isplitl [Hh HO]
  · isplitl [Hh]; · iexact Hh
    isplitr; · iempintro
    iexact HO
  isplitl [Hl]; · iexact Hl
  isplitl [Hc] <;> iassumption

theorem lift_entry : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

/-- The same in the whole program's body table. -/
theorem wp_top (d : Dev nD) (Q : PUnit → sProp 𝕄) :
    iprop(levAts (K (F := F)).L (K (F := F)).lev ∗ boundary (d.tc : Thread nD τ) ∗ StableHlo.held (d.tc : Thread nD τ) ucRefs (W1 m d) ∗ owesTc (F := F) d ∗ G (F := F) d
        ∗ ((boundary (d.tc : Thread nD τ) ∗ StableHlo.held (d.tc : Thread nD τ) ucRefs (W2 m d) ∗ owesTc (F := F) d) -∗ Q ⟨⟩))
      ⊢ wp frame (wpE ((K (F := F)).defs (D (F := F))) 𝒱 (d.tc : Thread nD τ) none) Set.univ
          (Prog.lift (.customCall (SparseCore.inner (Pipeline.entry 0)) ())) Q := by
  rw [lift_entry]
  exact (wp_entry m d Q).trans ((K (F := F)).wp_liftProg (D (F := F)) 𝒱 (d.tc : Thread nD τ) Set.univ none _ _)

/-- What the core owes, apart from the rest of its state before the call. -/
theorem tcSt_split (d : Dev nD) : ∃ R : sProp 𝕄, (K (F := F)).tcSt EH d 0 = iprop(owesTc (F := F) d ∗ R) := ⟨_, rfl⟩

/-- The host program on device `d`'s TensorCore: from the launch memory to `W5`. -/
theorem hmain (κ : GSem nD τ sig → ℕ) (d : Dev nD) :
    iprop((K (F := F)).ctx EH (P (tabOf m) (idxOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ StableHlo.held (d.tc : Thread nD τ) ucRefs (W5 m d) ∗ (K (F := F)).tcEnd d) := by
  obtain ⟨R, hR⟩ := tcSt_split (F := F) d
  unfold SparseCore.Cfg.tcRes SparseCore.Cfg.tcEnd
  rw [show (unscopedBufs d (fun b => m ((SparseCore.T d).loc b)) : sProp 𝕄) = unscopedBufs d (fun b => W0 m d (Proc.devRef .tc b)) from rfl,
    unscopedBufs_held, main_eq]
  show iprop(_ ∗ _ ∗ (boundary (d.tc : Thread nD τ) ∗ _ ∗ _ ∗ _) ∗ _) ⊢ (wp _ (wpE _ _ (d.tc : Thread nD τ) none) _ _ _ : sProp 𝕄)
  iintro ⟨#Hctx, Hst, ⟨Hb, Hh, Hts, -⟩, HG⟩
  iapply (StableHlo.wp_seq 𝒱 none Set.univ d ucRefs _ (opsA (F := F)) bufs_A fresh_A (W0 m d)) $$ [Hb Hh]
  · isplitl [Hb] <;> iassumption
  iintro ⟨Hb, Hh⟩
  rw [wp_bind]
  ihave Hl := ((K (F := F)).ctx_levAts (EH := EH) (P := P (tabOf m) (idxOf m)) κ) $$ Hctx
  ihave Hst := (Entails.of_eq hR) $$ Hst
  icases Hst with ⟨HO, Hst⟩
  iapply (wp_top m d _) $$ [Hl Hb Hh HO HG Hst Hts]
  isplitl [Hl]; · iexact Hl
  isplitl [Hb]; · iexact Hb
  isplitl [Hh]; · iexact Hh
  isplitl [HO]; · iexact HO
  isplitl [HG]; · iexact HG
  iintro ⟨Hb, Hh, HO⟩
  iapply (StableHlo.wp_seq 𝒱 none Set.univ d ucRefs _ (opsB (F := F)) bufs_B fresh_B (W2 m d)) $$ [Hb Hh]
  · isplitl [Hb] <;> iassumption
  iintro ⟨Hb, Hh⟩
  rw [wp_bind]
  rw [show StableHlo.after (opsB (F := F)) (W2 m d) = W3 m d from rfl]
  ihave Hh := (held_before m d) $$ Hh
  icases Hh with ⟨Hsc, Hr⟩
  iapply ((K (F := F)).wp_run (D (F := F)) 𝒱 (EH := EH) (P := P (tabOf m) (idxOf m)) κ d 0) $$ [HO Hst Hsc Hr Hb Hts]
  isplitr; · iexact Hctx
  isplitl [HO Hst]
  · iapply (Entails.of_eq hR.symm); isplitl [HO] <;> iassumption
  isplitl [Hsc]
  · iapply (st_intro (tabOf m) (idxOf m) d _); iexact Hsc
  iintro ⟨Hst, Hdn⟩
  ihave Hsc := (dn_elim (tabOf m) (idxOf m) d) $$ Hdn
  ihave Hh := (held_after m d) $$ [Hsc Hr]
  · isplitl [Hsc] <;> iassumption
  iapply (StableHlo.wp_seq 𝒱 none Set.univ d ucRefs _ (opsC (F := F)) bufs_C fresh_C (W4 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The program's run -/

def fq (d : Dev nD) (s' : Phys nD τ sig (Elt F)) : Prop :=
  ∀ b : Ref sig .tc, b.isScoped = false → s'.mem.mem ((d.tc : Thread nD τ).loc b) = W5 m d (Proc.devRef .tc b)

theorem hfin (d : Dev nD) (s' : Phys nD τ sig (Elt F)) :
    iprop(StableHlo.held (d.tc : Thread nD τ) ucRefs (W5 m d) ∗ SI s') ⊢ (⌜fq m d s'⌝ : sProp 𝕄) := by
  unfold fq
  refine (Laws.forall_intro fun b => ?_).trans Laws.pure_forall.2
  refine (Laws.forall_intro fun hb => ?_).trans Laws.pure_forall.2
  have hmem : Proc.devRef .tc b ∈ ucRefs := Finset.mem_filter.mpr ⟨StableHlo.devRef_mem_tcRefs b, by
    show ¬ (b.isScoped = true); rw [hb]; decide⟩
  have h1 : (StableHlo.held (d.tc : Thread nD τ) ucRefs (W5 m d) : sProp 𝕄) ⊢ ((d.tc : Thread nD τ).loc b ↦{fullShare} W5 m d (Proc.devRef .tc b)) :=
    bigSep_elim (Φ := fun b : DevRef τ sig => (((d, b) : Loc nD τ sig) ↦{fullShare} W5 m d b)) hmem
  show (_ : sProp 𝕄) ⊢ _
  iintro ⟨Hh, HSI⟩
  ihave Hb := h1 $$ Hh
  ihave H := (SI_pointsTo_agree (st := s') (ℓ := (d.tc : Thread nD τ).loc b) (I := Finset.univ) (q := fullShare) (f := W5 m d (Proc.devRef .tc b))) $$ [HSI Hb]
  · isplitl [HSI] <;> iassumption
  icases H with %h2
  ipureintro; exact funext fun i => h2 i (Finset.mem_univ i)

/-- Every array of the TensorCore at `W5`, every semaphore at zero. -/
def QC : PUnit × MemSt nD τ sig (Elt F) → Prop := fun r =>
  (∀ (d : Dev nD) (b : Ref sig .tc), b.isScoped = false → r.2.mem ((d.tc : Thread nD τ).loc b) = W5 m d (Proc.devRef .tc b)) ∧ r.2.sem = fun _ => 0

/-- From a launch memory whose row numbers name rows of the table, every run of the kernel ends, with every array at
    `W5` and every semaphore at zero. -/
theorem run_main [∀ e, Nonempty (Elt F e)] (hin : InRange (F := F) (idxOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabOf m) (idxOf m)) (A := ∅) facts v₀
    (fun q hq => match q with | 0 => nomatch hq)
    (fun q _ => match q with | 0 => tileObl (tabOf m) (idxOf m) hin)
    (fun q _ => match q with | 0 => SparseCore.Cfg.VecSplit.of_plain (vecSplit (tabOf m) (idxOf m)))
    m ρ main (G (F := F)) (fun d => StableHlo.held (d.tc : Thread nD τ) ucRefs (W5 m d)) (u₀ (F := F)) (sep_elim_left.trans (hu₀ m)) (hmain m ρ) (fq m) (hfin m)
    (QC m) (fun _ h hz => ⟨h, hz⟩)

end Cert.Proof.Knn

end
-- ==== Proof.Select.lean ====
/-
  Thirty-two rounds of "take the first least entry, strike it out" on a row of numbers, and what a stable sort of the row
  puts first: as long as every entry lies below plus infinity, the two name the same entries in the same order.
-/
module

public import Idealize.ShloMosaic.Lib.SortPrefix
public import Idealize.ShloMosaic.PureOps.Ideal

@[expose] public section

noncomputable section

namespace Cert.Proof.Knn

open Idealize.ShloMosaic

variable {n : ℕ}

/-! ## The first least entry -/

/-- `p` holds a least entry of `v`, and no entry before it is least. -/
def IsFirst (v : Fin n → EReal) (p : Fin n) : Prop := (∀ q, v p ≤ v q) ∧ ∀ q, q < p → v p < v q

theorem IsFirst.unique {v : Fin n → EReal} {p q : Fin n} (hp : IsFirst v p) (hq : IsFirst v q) : p = q := by
  rcases lt_trichotomy p q with h | h | h
  · exact absurd (hp.1 q) (not_le.mpr (hq.2 p h))
  · exact h
  · exact absurd (hq.1 p) (not_le.mpr (hp.2 q h))

theorem exists_isFirst [NeZero n] (v : Fin n → EReal) : ∃ p, IsFirst v p := by
  classical
  obtain ⟨m, -, hm⟩ := Finset.exists_min_image (Finset.univ : Finset (Fin n)) v ⟨0, Finset.mem_univ _⟩
  obtain ⟨p, hp, hmin⟩ := Finset.exists_min_image (Finset.univ.filter fun q => v q ≤ v m) id ⟨m, by simp⟩
  have hpm : v p ≤ v m := (Finset.mem_filter.mp hp).2
  refine ⟨p, fun q => hpm.trans (hm q (Finset.mem_univ q)), fun q hq => ?_⟩
  by_contra h
  exact absurd hq (not_lt.mpr (hmin q (Finset.mem_filter.mpr ⟨Finset.mem_univ q, (not_lt.mp h).trans hpm⟩)))

/-- The place of the first least entry. -/
def firstMin [NeZero n] (v : Fin n → EReal) : Fin n := (exists_isFirst v).choose

theorem isFirst_firstMin [NeZero n] (v : Fin n → EReal) : IsFirst v (firstMin v) := (exists_isFirst v).choose_spec

theorem IsFirst.eq_firstMin [NeZero n] {v : Fin n → EReal} {p : Fin n} (h : IsFirst v p) : p = firstMin v :=
  h.unique (isFirst_firstMin v)

/-! ## Striking entries out -/

/-- The row after `k` rounds. -/
def struck [NeZero n] (v : Fin n → EReal) : ℕ → Fin n → EReal
  | 0 => v
  | k + 1 => fun q => if q = firstMin (struck v k) then ⊤ else struck v k q

/-- The entry round `k` takes. -/
def pick [NeZero n] (v : Fin n → EReal) (k : ℕ) : Fin n := firstMin (struck v k)

theorem struck_succ [NeZero n] (v : Fin n → EReal) (k : ℕ) (q : Fin n) :
    struck v (k + 1) q = if q = pick v k then ⊤ else struck v k q := rfl

/-- An entry no round before `k` took still stands. -/
theorem struck_of_not_picked [NeZero n] (v : Fin n → EReal) (q : Fin n) :
    ∀ k, (∀ j, j < k → pick v j ≠ q) → struck v k q = v q
  | 0, _ => rfl
  | k + 1, h => by
    rw [struck_succ, if_neg (fun e => h k (Nat.lt_succ_self k) e.symm)]
    exact struck_of_not_picked v q k fun j hj => h j (hj.trans (Nat.lt_succ_self k))

/-- An entry some round before `k` took is plus infinity. -/
theorem struck_of_picked [NeZero n] (v : Fin n → EReal) (q : Fin n) :
    ∀ k j, j < k → pick v j = q → struck v k q = ⊤
  | 0, _, hj, _ => absurd hj (Nat.not_lt_zero _)
  | k + 1, j, hj, e => by
    rw [struck_succ]
    split
    · rfl
    · next hne =>
      rcases Nat.lt_succ_iff_lt_or_eq.mp hj with h | rfl
      · exact struck_of_picked v q k j h e
      · exact absurd e.symm hne

section

variable [NeZero n] {v : Fin n → EReal} (hv : ∀ q, v q < ⊤)
include hv

/-- With fewer rounds than entries, a round takes an entry that still stands. -/
theorem pick_new {k : ℕ} (hk : k < n) (j : ℕ) (hj : j < k) : pick v j ≠ pick v k := by
  classical
  intro e
  obtain ⟨q, hq⟩ : ∃ q : Fin n, ∀ i : Fin k, pick v i ≠ q := by
    by_contra h
    push Not at h
    have := Fintype.card_le_of_surjective (fun i : Fin k => pick v i) h
    simp only [Fintype.card_fin] at this
    omega
  have hlt : struck v k q < ⊤ := by
    rw [struck_of_not_picked v q k fun i hi => hq ⟨i, hi⟩]; exact hv q
  have htop : struck v k (pick v k) = ⊤ := struck_of_picked v _ k j hj e
  have := (isFirst_firstMin (struck v k)).1 q
  rw [show firstMin (struck v k) = pick v k from rfl, htop] at this
  exact absurd hlt (not_lt.mpr this)

theorem pick_value {k : ℕ} (hk : k < n) : struck v k (pick v k) = v (pick v k) :=
  struck_of_not_picked v _ k fun j hj => pick_new hv hk j hj

/-- An entry that still stands at round `k` is not before the one the round takes. -/
theorem pick_least {k : ℕ} (hk : k < n) {p : Fin n} (hp : ∀ j, j < k → pick v j ≠ p) :
    v (pick v k) ≤ v p ∧ (v p = v (pick v k) → pick v k ≤ p) := by
  have h := isFirst_firstMin (struck v k)
  have h1 := h.1 p
  rw [show firstMin (struck v k) = pick v k from rfl, pick_value hv hk, struck_of_not_picked v p k hp] at h1
  refine ⟨h1, fun e => ?_⟩
  by_contra hlt
  have h2 := h.2 p (not_le.mp hlt)
  rw [show firstMin (struck v k) = pick v k from rfl, pick_value hv hk, struck_of_not_picked v p k hp] at h2
  exact absurd e (ne_of_gt h2)

end

/-! ## The stable sort -/

/-- `a` before `b`: the smaller entry, and of two equal ones the one at the smaller place. -/
def before (v : Fin n → EReal) (a b : Fin n) : Bool := by
  classical exact decide (v a < v b) || (decide (v a = v b) && decide (a < b))

theorem before_total (v : Fin n → EReal) : StrictTotalBefore (before v) := by
  classical
  have h := StrictTotalBefore.of_key_then_position (fun a b : EReal => decide (a < b)) v (fun a => by simp)
    (fun a b c => by simp only [decide_eq_true_eq]; exact lt_trans) (fun a b => by
      simp only [decide_eq_true_eq]; exact lt_trichotomy a b)
  have e : before v = fun k k' => decide (v k < v k') || (decide (v k = v k') && decide (k < k')) := by
    funext a b; rw [Bool.eq_iff_iff]; simp only [before, Bool.or_eq_true, Bool.and_eq_true, decide_eq_true_eq]
  rw [e]; exact h

/-- Into a list of later places, inserting by the entries alone is inserting by the entries and the places. -/
theorem insert_by_entries (v : Fin n → EReal) (R : Fin n → Fin n → Bool) (hR : ∀ a b, R a b = true ↔ v a < v b) (l : List (Fin n))
    (hl : l.Pairwise (· < ·)) : stableSort R l = stableSort (before v) l := by
  classical
  induction l with
  | nil => rfl
  | cons a l ih =>
    rw [List.pairwise_cons] at hl
    show insertBefore R a (stableSort R l) = insertBefore (before v) a (stableSort (before v) l)
    rw [ih hl.2]
    refine insertBefore_congr _ _ _ _ fun b hb => ?_
    have hab : a < b := hl.1 b ((perm_stableSort _ _).mem_iff.mp hb)
    rw [Bool.eq_iff_iff, hR]
    simp only [before, Bool.or_eq_true, Bool.and_eq_true, decide_eq_true_eq, not_lt_of_gt hab, and_false, or_false]

/-- The first places of the stable sort are the entries the rounds take. -/
theorem sortedFrom_eq_pick [NeZero n] {v : Fin n → EReal} (hv : ∀ q, v q < ⊤) (R : Fin n → Fin n → Bool)
    (hR : ∀ a b, R a b = true ↔ v a < v b) (k : Fin n) : sortedFrom R k = pick v k.val := by
  classical
  have hs : sortedFrom R k = sortedFrom (before v) k := by
    have e : sortPositions n R = sortPositions n (before v) := insert_by_entries v R hR _ (List.pairwise_lt_finRange n)
    unfold sortedFrom
    simp only [e, List.get_eq_getElem, Fin.val_cast]
  rw [hs]
  have hb : ∀ (i : Fin n) (p : Fin n), (∀ j, j < i.val → pick v j ≠ p) → before v p (pick v i.val) = false := fun i p hp => by
    have h := pick_least hv i.isLt hp
    simp only [before, Bool.or_eq_false_iff, Bool.and_eq_false_iff, decide_eq_false_iff_not]
    refine ⟨not_lt.mpr h.1, ?_⟩
    by_cases e : v p = v (pick v i.val)
    · exact Or.inr (not_lt.mpr (h.2 e))
    · exact Or.inl e
  have h := (before_total v).sortedFrom_eq_of_prefix (le_refl n) (fun i : Fin n => pick v i.val)
    (fun i j e => by
      by_contra hne
      rcases lt_or_gt_of_ne (fun h => hne (Fin.ext h)) with h | h
      · exact pick_new hv j.isLt i.val h e
      · exact pick_new hv i.isLt j.val h e.symm)
    (fun i j hij => hb i _ fun l hl => pick_new hv j.isLt l (hl.trans hij))
    (fun i p hp => hb i p fun l hl => hp ⟨l, hl.trans i.isLt⟩) k
  exact h

end Cert.Proof.Knn
-- ==== Proof.Rounds.lean ====
/-
  The thirty-two rounds of the top-k body at the extended reals: each round's reductions name the row's first least entry,
  so the numbers left are the picks of Select.lean, and each is the number of a key.
-/
module

public import proofs.«01_k».proof.Proof.Body
public import proofs.«01_k».proof.Proof.Select
public import Idealize.ShloMosaic.Lib.Pointwise
public import Idealize.ShloMosaic.Lib.SortNet.Extract
public import Idealize.ShloMosaic.Lib.DynamicIndex
public import Idealize.ShloMosaic.Lib.WordCmp

@[expose] public section

set_option maxRecDepth 16384

noncomputable section

namespace Cert.Proof.Knn

open Cert.KernelIdeal Cert.KernelIdeal.Gen

open Idealize.ShloMosaic

/-- Row `r` of a block. -/
def rowAt (D : FVec Ideal S256x4096 .f32) (r : Fin 256) : Fin 4096 → EReal := fun q => D (ix2 r q)

/-- The least of a row, in the accumulator's fold. -/
theorem foldMin_eq (v : Fin 4096 → EReal) :
    Finset.fold min (Ideal.ofBits FTy.f32 0x7F800000#32) v Finset.univ = v (firstMin v) := by
  have htop : Ideal.ofBits .f32 0x7F800000#32 = ⊤ := by simp [Ideal.ofBits, Ideal.ieee]
  rw [htop]
  refine le_antisymm ?_ ?_
  · exact (Finset.fold_min_le _).mpr (Or.inr ⟨firstMin v, Finset.mem_univ _, le_refl _⟩)
  · exact (Finset.le_fold_min _).mpr ⟨le_top, fun q _ => (isFirst_firstMin v).1 q⟩

/-- The least number of an entry that is least. -/
theorem foldMinsi_eq (v : Fin 4096 → EReal) :
    Finset.fold IntOp.minsi (2147483647#32) (fun x : Fin 4096 => if v x ≤ v (firstMin v) then BitVec.ofNat 32 x.val else 4096#32)
        Finset.univ = BitVec.ofNat 32 (firstMin v).val := by
  have hlt : (firstMin v).val < 4096 := (firstMin v).isLt
  apply BitVec.eq_of_toInt_eq
  rw [toInt_ofNat_of_lt (by omega),
    ← Finset.fold_hom (op := IntOp.minsi) (op' := min) (m := fun w : BitVec 32 => w.toInt) fun a b => SortNet.toInt_minsi a b]
  refine le_antisymm ?_ ?_
  · refine (Finset.fold_min_le _).mpr (Or.inr ⟨firstMin v, Finset.mem_univ _, ?_⟩)
    rw [if_pos (le_refl _), toInt_ofNat_of_lt (by omega)]
  · refine (Finset.le_fold_min _).mpr ⟨?_, fun q _ => ?_⟩
    · rw [show (2147483647#32 : BitVec 32).toInt = 2147483647 from by decide]; omega
    · have hq : q.val < 4096 := q.isLt
      split
      · next h =>
        rw [toInt_ofNat_of_lt (by omega)]
        have : ¬ q < firstMin v := fun hlt => absurd ((isFirst_firstMin v).2 q hlt) (not_lt.mpr h)
        rw [Fin.lt_def] at this
        omega
      · rw [show (4096#32 : BitVec 32).toInt = 4096 from by decide]; omega

/-- A round takes each row's first least entry, -/
theorem pay16_apply (D : FVec Ideal S256x4096 .f32) (r : Fin 256) :
    k0_pay16 (F := Ideal) D (ix2 r (0 : Fin 1)) = BitVec.ofNat 32 (firstMin (rowAt D r)).val := by
  pointwise [k0_pay16]
  rw [show Finset.fold min (Ideal.ofBits FTy.f32 2139095040#32) (fun x => D (ix2 r x)) Finset.univ = rowAt D r (firstMin (rowAt D r))
    from foldMin_eq (rowAt D r)]
  exact foldMinsi_eq (rowAt D r)

/-- strikes it out, -/
theorem pay17_apply (D : FVec Ideal S256x4096 .f32) (r : Fin 256) (q : Fin 4096) :
    k0_pay17 (F := Ideal) D (ix2 r q) = if q = firstMin (rowAt D r) then ⊤ else D (ix2 r q) := by
  have htop : Ideal.ofBits .f32 0x7F800000#32 = ⊤ := by simp [Ideal.ofBits, Ideal.ieee]
  have h1 : q.val < 4096 := q.isLt
  have h2 : (firstMin (rowAt D r)).val < 4096 := (firstMin (rowAt D r)).isLt
  pointwise [k0_pay17]
  rw [pay16_apply, WordCmp.cmpi_eq_ofNat (by omega) (by omega), htop]
  by_cases h : q = firstMin (rowAt D r)
  · rw [if_pos h, h]; simp [Scalar.select]
  · rw [if_neg h]; simp [Scalar.select, Fin.val_inj, h]

/-- and puts its number in the round's column. -/
theorem pay18_apply (k : Fin k0_t1_loop.trips) (a : IVec S256x32 32) (D : FVec Ideal S256x4096 .f32) (r : Fin 256) (c : Fin 32) :
    k0_pay18 (F := Ideal) k a D (ix2 r c) = if c.val = k.val then BitVec.ofNat 32 (firstMin (rowAt D r)).val else a (ix2 r c) := by
  have hk : k.val < 32 := lt_of_lt_of_eq k.isLt (by decide)
  have hc : c.val < 32 := c.isLt
  pointwise [k0_pay18]
  rw [pay16_apply, show Scf.iv 0#32 1#32 k.val = BitVec.ofNat 32 k.val from by simp [Scf.iv], WordCmp.cmpi_eq_ofNat (by omega) (by omega)]
  by_cases h : c.val = k.val
  · rw [if_pos h]; simp [Scalar.select, h]
  · rw [if_neg h]; simp [Scalar.select, h]

theorem pay1_apply (a : IVec S256x32 32) (r : Fin 256) (c : Fin 32) :
    k0_pay1 a (ix3 (0 : Fin 1) r c) = a (ix2 r c) := by
  pointwise [k0_pay1]

/-! ## All the rounds -/

/-- After `k` rounds the distances are the row with the first `k` picks struck out, and the columns before `k` hold the
    picks' numbers. -/
theorem roundsOf_apply (D : FVec Ideal S256x4096 .f32) (r : Fin 256) :
    ∀ k, k ≤ k0_t1_loop.trips → rowAt (roundsOf D k).1 r = struck (rowAt D r) k
      ∧ ∀ c : Fin 32, c.val < k → (roundsOf D k).2 (ix2 r c) = BitVec.ofNat 32 (pick (rowAt D r) c.val).val
  | 0, _ => ⟨rfl, fun c hc => absurd hc (Nat.not_lt_zero _)⟩
  | k + 1, hk => by
    obtain ⟨h1, h2⟩ := roundsOf_apply D r k (by omega)
    have e := roundsOf_succ D ⟨k, hk⟩
    rw [show roundsOf D (k + 1) = _ from e]
    refine ⟨?_, fun c hc => ?_⟩
    · funext q
      show (roundOf _ _).1 (ix2 r q) = _
      rw [roundOf_fst, pay17_apply, struck_succ, h1]
      rw [show (roundsOf D k).1 (ix2 r q) = rowAt (roundsOf D k).1 r q from rfl, h1]
      rfl
    · rw [roundOf_snd, pay18_apply, h1]
      by_cases hck : c.val = k
      · rw [if_pos hck, hck]; rfl
      · rw [if_neg hck]; exact h2 c (by omega)

/-- What the body leaves: row by row, the numbers of the picks of the distances. -/
theorem topBlk_apply (v0 : Vec Ideal S1x256x128 .f32) (v2 : Vec Ideal S1x128x4096 .f32) (r : Fin 256) (c : Fin 32) :
    topBlk v0 v2 (ix3 (0 : Fin 1) r c) = BitVec.ofNat 32 (pick (rowAt (distBlk v0 v2) r) c.val).val := by
  unfold topBlk
  rw [pay1_apply]
  exact (roundsOf_apply (distBlk v0 v2) r k0_t1_loop.trips (le_refl _)).2 c (lt_of_lt_of_eq c.isLt (by decide))

end Cert.Proof.Knn
-- ==== Proof.Arrays.lean ====
/-
  What the kernel's arrays hold at the extended reals, entry by entry: the padded features before the top-k call, the row
  numbers and the table before the gather, and the results.
-/
module

public import proofs.«01_k».proof.Proof.Main
public import proofs.«01_k».proof.Proof.Rounds
public import Idealize.ShloMosaic.Lib.StableHlo.ReadAt

@[expose] public section

set_option maxRecDepth 16384

noncomputable section

namespace Cert.Proof.Knn

open Cert.KernelIdeal Cert.KernelIdeal.Gen

open Idealize.ShloMosaic

variable (m : (ℓ : Loc nD τ sig) → Buf (Elt Ideal) ℓ) (d : Dev nD)

/-- Component `e` of the features of point `p` of batch `b`. -/
def feat (x : S4x32x3x4096.Idx → EReal) (b : Fin 4) (p : Fin 4096) (e : Fin 96) : EReal :=
  x (ix4 b (⟨e.val / 3, by omega⟩ : Fin 32) (⟨e.val % 3, Nat.mod_lt _ (by decide)⟩ : Fin 3) p)

/-- The launch contents of the two arguments. -/
def coords : S4x4096x3.Idx → EReal := m ((d.tc : Thread nD τ).loc main_arg0)
def feats : S4x32x3x4096.Idx → EReal := m ((d.tc : Thread nD τ).loc main_arg1)

theorem W1_v1 (b : Fin 4) (p : Fin 4096) (e : Fin 96) :
    (W1 m d (Proc.devRef .tc main_v1) : S4x4096x96.Idx → EReal) (ix3 b p e) = feat (feats m d) b p e := by
  unfold W1 W0 feats feat
  after_reads_at

theorem W1_v3 (b : Fin 4) (p : Fin 4096) (e : Fin 128) :
    (W1 m d (Proc.devRef .tc main_v3) : S4x4096x128.Idx → EReal) (ix3 b p e) = if h : e.val < 96 then feat (feats m d) b p ⟨e.val, h⟩ else 0 := by
  unfold W1 W0 feats feat
  after_reads_at

theorem W1_v4 (b : Fin 4) (p : Fin 4096) (e : Fin 128) :
    (W1 m d (Proc.devRef .tc main_v4) : S4x128x4096.Idx → EReal) (ix3 b e p) = if h : e.val < 96 then feat (feats m d) b p ⟨e.val, h⟩ else 0 := by
  unfold W1 W0 feats feat
  after_reads_at
  after_reads_at

/-- The number of the `k`-th nearest key of query `p` of batch `b`, as the rounds pick it. -/
def near (b : Fin 4) (p : Fin 4096) (k : Fin 32) : Fin 4096 :=
  pick (rowAt (distBlk (blkQ (W1 m d (Proc.devRef .tc main_v3)) b (⟨p.val / 256, by omega⟩ : Fin 16)) (blkK (W1 m d (Proc.devRef .tc main_v4)) b))
    (⟨p.val % 256, Nat.mod_lt _ (by decide)⟩ : Fin 256)) k.val

theorem W2_v5 (b : Fin 4) (p : Fin 4096) (k : Fin 32) :
    (W2 m d (Proc.devRef .tc main_v5) : S4x4096x32.Idx → BitVec 32) (ix3 b p k) = BitVec.ofNat 32 (near m d b p k).val := by
  have e : W2 m d (Proc.devRef .tc main_v5) = topAll (W1 m d (Proc.devRef .tc main_v3)) (W1 m d (Proc.devRef .tc main_v4)) :=
    Function.update_self _ _ _
  rw [e]
  exact topBlk_apply _ _ _ k

theorem W2_ne (b : DevRef τ sig) (h : b ≠ Proc.devRef .tc main_v5) : W2 m d b = W1 m d b := Function.update_of_ne h _ _

theorem idxOf_apply (j : Fin 524288) : idxOf m d (ix1 j)
    = BitVec.ofNat 32 ((near m d ⟨j.val / 131072, by omega⟩ ⟨j.val / 32 % 4096, Nat.mod_lt _ (by decide)⟩ ⟨j.val % 32, Nat.mod_lt _ (by decide)⟩).val
        + 4096 * (j.val / 131072)) := by
  unfold idxOf W3
  after_reads_at
  rw [W2_v5]
  have h1 := (near m d ⟨j.val / 131072, by omega⟩ ⟨j.val / 32 % 4096, Nat.mod_lt _ (by decide)⟩ ⟨j.val % 32, Nat.mod_lt _ (by decide)⟩).isLt
  have h2 : j.val / 131072 < 4 := by omega
  apply BitVec.eq_of_toNat_eq
  simp only [IntOp.addi, IntOp.muli, BitVec.toNat_add, BitVec.toNat_mul, BitVec.toNat_ofNat]
  omega

theorem idxOf_inRange : InRange (F := Ideal) (idxOf m) := by
  intro d j
  obtain ⟨a, rfl⟩ : ∃ a : Fin 524288, j = ix1 a := ⟨j 0, eq_ix1 j⟩
  have e : (idxOf m d (ix1 a) : BitVec 32) = _ := idxOf_apply m d a
  show (idxOf m d (ix1 a) : BitVec 32).toNat < 16384
  have h1 := (near m d ⟨a.val / 131072, by omega⟩ ⟨a.val / 32 % 4096, Nat.mod_lt _ (by decide)⟩ ⟨a.val % 32, Nat.mod_lt _ (by decide)⟩).isLt
  rw [e, BitVec.toNat_ofNat]
  omega

theorem tabOf_apply (p : Fin 16384) (e : Fin 128) : (tabOf m d : S16384x128.Idx → EReal) (ix2 p e)
    = if h : e.val < 96 then feat (feats m d) ⟨p.val / 4096, by omega⟩ ⟨p.val % 4096, Nat.mod_lt _ (by decide)⟩ ⟨e.val, h⟩
      else if h' : e.val < 99 then coords m d (ix3 ⟨p.val / 4096, by omega⟩ ⟨p.val % 4096, Nat.mod_lt _ (by decide)⟩ ⟨e.val - 96, by omega⟩) else 0 := by
  unfold tabOf W3
  after_reads_at
  after_reads_at
  by_cases h : e.val < 96
  · rw [dif_pos h, dif_pos h, W2_ne m d _ (by decide)]; exact W1_v1 m d _ _ _
  · rw [dif_neg h, dif_neg h]
    by_cases h' : e.val < 99
    · rw [dif_pos (by omega), dif_pos h']
      have e0 : W2 m d (Proc.devRef .tc main_arg0) = coords m d := by
        rw [W2_ne m d _ (by decide)]; unfold W1 coords; after_reads_simp
      exact congrFun e0 _
    · rw [dif_neg (by omega), dif_neg h']

/-! ## The results -/

/-- The gathered rows by batch, query and neighbour. -/
theorem rows_apply (x : S524288x128.Idx → EReal) (b : Fin 4) (p : Fin 4096) (k : Fin 32) (e : Fin 128) :
    shapeCast S4x4096x32x128 x shapeCasts_S524288x128_S4x4096x32x128 (ix4 b p k e)
      = x (ix2 (⟨b.val * 131072 + p.val * 32 + k.val, by omega⟩ : Fin 524288) e) := by
  unfold shapeCast
  refine congrArg x (Shape.reshapeEquiv_eq_of_rowMajor _ ?_)
  rw [rowMajor_val2 _ 128 rfl, rowMajor_val4 _ 16777216 4096 128 rfl rfl rfl]
  show (b.val * 131072 + p.val * 32 + k.val) * 128 + e.val = b.val * 16777216 + p.val * 4096 + k.val * 128 + e.val
  omega

/-- A gathered row is the table's row of the neighbour. -/
theorem out_apply (b : Fin 4) (p : Fin 4096) (k : Fin 32) (e : Fin 128) :
    (W4 m d (Proc.devRef .tc main_v17) : S524288x128.Idx → EReal) (ix2 (⟨b.val * 131072 + p.val * 32 + k.val, by omega⟩ : Fin 524288) e)
      = if h : e.val < 96 then feat (feats m d) b (near m d b p k) ⟨e.val, h⟩
        else if h' : e.val < 99 then coords m d (ix3 b (near m d b p k) ⟨e.val - 96, by omega⟩) else 0 := by
  rw [W4_out]
  have hn := (near m d b p k).isLt
  have hi : (idxOf m d (ix1 (⟨b.val * 131072 + p.val * 32 + k.val, by omega⟩ : Fin 524288)) : BitVec 32)
      = BitVec.ofNat 32 ((near m d b p k).val + 4096 * b.val) := by
    rw [idxOf_apply]
    have e1 : (⟨(b.val * 131072 + p.val * 32 + k.val) / 131072, by omega⟩ : Fin 4) = b := Fin.ext (by show _ / _ = _; omega)
    have e2 : (⟨(b.val * 131072 + p.val * 32 + k.val) / 32 % 4096, Nat.mod_lt _ (by decide)⟩ : Fin 4096) = p := Fin.ext (by show _ % _ = _; omega)
    have e3 : (⟨(b.val * 131072 + p.val * 32 + k.val) % 32, Nat.mod_lt _ (by decide)⟩ : Fin 32) = k := Fin.ext (by show _ % _ = _; omega)
    have e4 : (b.val * 131072 + p.val * 32 + k.val) / 131072 = b.val := by omega
    simp only [e1, e2, e3, e4]
  show (tabOf m d : S16384x128.Idx → EReal) (ix2 (⟨min (idxOf m d (ix1 (⟨b.val * 131072 + p.val * 32 + k.val, by omega⟩ : Fin 524288)) : BitVec 32).toNat 16383,
    lt_of_le_of_lt (min_le_right _ _) (by decide)⟩ : Fin 16384) e) = _
  have hr : (⟨min (idxOf m d (ix1 (⟨b.val * 131072 + p.val * 32 + k.val, by omega⟩ : Fin 524288)) : BitVec 32).toNat 16383,
      lt_of_le_of_lt (min_le_right _ _) (by decide)⟩ : Fin 16384) = ⟨(near m d b p k).val + 4096 * b.val, by omega⟩ :=
    Fin.ext (by
      show min (idxOf m d _ : BitVec 32).toNat 16383 = (near m d b p k).val + 4096 * b.val
      rw [hi, BitVec.toNat_ofNat, Nat.mod_eq_of_lt (by omega), min_eq_left (by omega)])
  rw [hr, tabOf_apply]
  have e1 : (⟨((near m d b p k).val + 4096 * b.val) / 4096, by omega⟩ : Fin 4) = b := Fin.ext (by show _ / _ = _; omega)
  have e2 : (⟨((near m d b p k).val + 4096 * b.val) % 4096, Nat.mod_lt _ (by decide)⟩ : Fin 4096) = near m d b p k := Fin.ext (by show _ % _ = _; omega)
  simp only [e1, e2]

theorem after_v22 (V : Valuation τ sig (Elt Ideal)) (b : Fin 4) (p : Fin 4096) (k : Fin 32) (e : Fin 3) :
    (StableHlo.after opsC V (Proc.devRef .tc main_v22) : S4x4096x32x3.Idx → EReal) (ix4 b p k e)
      = (V (Proc.devRef .tc main_v17) : S524288x128.Idx → EReal)
          (ix2 (⟨b.val * 131072 + p.val * 32 + k.val, by omega⟩ : Fin 524288) (⟨96 + e.val, by omega⟩ : Fin 128)) := by
  after_reads_simp
  clean_types
  rw [← rows_apply (V (Proc.devRef .tc main_v17)) b p k ⟨96 + e.val, by omega⟩]
  generalize shapeCast S4x4096x32x128 _ _ = y
  pointwise

theorem after_v21 (V : Valuation τ sig (Elt Ideal)) (b : Fin 4) (f : Fin 32) (e : Fin 3) (p : Fin 4096) (k : Fin 32) :
    (StableHlo.after opsC V (Proc.devRef .tc main_v21) : S4x32x3x4096x32.Idx → EReal) (ix5 b f e p k)
      = (V (Proc.devRef .tc main_v17) : S524288x128.Idx → EReal)
          (ix2 (⟨b.val * 131072 + p.val * 32 + k.val, by omega⟩ : Fin 524288) (⟨f.val * 3 + e.val, by omega⟩ : Fin 128)) := by
  after_reads_simp
  clean_types
  rw [← rows_apply (V (Proc.devRef .tc main_v17)) b p k ⟨f.val * 3 + e.val, by omega⟩]
  generalize shapeCast S4x4096x32x128 _ _ = y
  pointwise

theorem after_v23 (V : Valuation τ sig (Elt Ideal)) (b : Fin 4) (f : Fin 32) (e : Fin 3) (p : Fin 4096) :
    (StableHlo.after opsC V (Proc.devRef .tc main_v23) : S4x32x3x4096x1.Idx → EReal) (ix5 b f e p (0 : Fin 1))
      = (V (Proc.devRef .tc main_v17) : S524288x128.Idx → EReal)
          (ix2 (⟨b.val * 131072 + p.val * 32 + (0 : Fin 32).val, by omega⟩ : Fin 524288) (⟨f.val * 3 + e.val, by omega⟩ : Fin 128)) := by
  after_reads_simp
  clean_types
  rw [← rows_apply (V (Proc.devRef .tc main_v17)) b p 0 ⟨f.val * 3 + e.val, by omega⟩]
  generalize shapeCast S4x4096x32x128 _ _ = y
  pointwise

/-- The kernel's coordinates result: the neighbours' coordinates. -/
theorem W5_v22 (b : Fin 4) (p : Fin 4096) (k : Fin 32) (e : Fin 3) :
    (W5 m d (Proc.devRef .tc main_v22) : S4x4096x32x3.Idx → EReal) (ix4 b p k e) = coords m d (ix3 b (near m d b p k) e) := by
  unfold W5
  rw [after_v22, out_apply, dif_neg (by show ¬ 96 + e.val < 96; omega), dif_pos (by show 96 + e.val < 99; omega)]
  exact congrArg (coords m d) (congrArg (ix3 b (near m d b p k)) (Fin.ext (by show 96 + e.val - 96 = e.val; omega)))

theorem feat_of (x : S4x32x3x4096.Idx → EReal) (b : Fin 4) (p : Fin 4096) (f : Fin 32) (e : Fin 3) :
    feat x b p ⟨f.val * 3 + e.val, by omega⟩ = x (ix4 b f e p) := by
  unfold feat
  have e1 : (⟨(f.val * 3 + e.val) / 3, by omega⟩ : Fin 32) = f := Fin.ext (by show _ / _ = _; omega)
  have e2 : (⟨(f.val * 3 + e.val) % 3, Nat.mod_lt _ (by decide)⟩ : Fin 3) = e := Fin.ext (by show _ % _ = _; omega)
  simp only [e1, e2]

/-- The kernel's features result: the neighbours' features, -/
theorem W5_v21 (b : Fin 4) (f : Fin 32) (e : Fin 3) (p : Fin 4096) (k : Fin 32) :
    (W5 m d (Proc.devRef .tc main_v21) : S4x32x3x4096x32.Idx → EReal) (ix5 b f e p k) = feats m d (ix4 b f e (near m d b p k)) := by
  unfold W5
  rw [after_v21, out_apply, dif_pos (by show f.val * 3 + e.val < 96; omega)]
  exact feat_of (feats m d) b (near m d b p k) f e

/-- and those of the nearest one. -/
theorem W5_v23 (b : Fin 4) (f : Fin 32) (e : Fin 3) (p : Fin 4096) :
    (W5 m d (Proc.devRef .tc main_v23) : S4x32x3x4096x1.Idx → EReal) (ix5 b f e p (0 : Fin 1)) = feats m d (ix4 b f e (near m d b p 0)) := by
  unfold W5
  rw [after_v23, out_apply, dif_pos (by show f.val * 3 + e.val < 96; omega)]
  exact feat_of (feats m d) b (near m d b p 0) f e

/-- The arguments are as at the launch. -/
theorem W5_arg0 : W5 m d (Proc.devRef .tc main_arg0) = m ((d.tc : Thread nD τ).loc main_arg0) := by
  unfold W5; after_reads_simp
  rw [W4_ne m d _ (by decide)]; unfold W3; after_reads_simp
  rw [W2_ne m d _ (by decide)]; unfold W1; after_reads_simp
theorem W5_arg1 : W5 m d (Proc.devRef .tc main_arg1) = m ((d.tc : Thread nD τ).loc main_arg1) := by
  unfold W5; after_reads_simp
  rw [W4_ne m d _ (by decide)]; unfold W3; after_reads_simp
  rw [W2_ne m d _ (by decide)]; unfold W1; after_reads_simp

end Cert.Proof.Knn
-- ==== Proof.Dist.lean ====
module
public import proofs.«01_k».proof.Proof.Arrays
/-!
# The kernel's distances are the plain ones

The kernel multiplies rows of 128 numbers, of which the last 32 are zero, and adds the squares of
the first 96 one after the other. Over the extended reals both are the plain sums over the 96
features, with no condition on the values: addition is associative and commutative there, and a
product of zeros is zero.
-/
@[expose] public section
set_option maxRecDepth 16384
noncomputable section
namespace Cert.Proof.Knn
open Cert.KernelIdeal Cert.KernelIdeal.Gen
open Idealize.ShloMosaic

/-- The squared distance of points `p` and `q` of batch `b`, in the order both programs take it:
the square of `p`, less twice the inner product, and then the square of `q`. -/
def dist (x : Vec Ideal S4x32x3x4096 .f32) (b : Fin 4) (p q : Fin 4096) : EReal :=
  (∑ e : Fin 96, feat x b p e * feat x b p e)
      - Ideal.ofBits .f32 0x40000000#32 * (∑ e : Fin 96, feat x b p e * feat x b q e)
    + ∑ e : Fin 96, feat x b q e * feat x b q e

/-- The sum of the first `k` of 128 numbers. -/
def upTo (f : Fin 128 → EReal) (k : ℕ) : EReal :=
  ∑ i ∈ Finset.range k, if h : i < 128 then f ⟨i, h⟩ else 0

theorem upTo_succ (f : Fin 128 → EReal) (k : ℕ) (h : k < 128) :
    upTo f (k + 1) = upTo f k + f ⟨k, h⟩ := by
  rw [upTo, Finset.sum_range_succ, dif_pos h, upTo]

theorem upTo_zero (f : Fin 128 → EReal) : upTo f 0 = 0 := by
  rw [upTo, Finset.sum_range_zero]

/-- The sum of the first 96 is a sum over the 96 features. -/
theorem upTo_96 (f : Fin 128 → EReal) :
    upTo f 96 = ∑ e : Fin 96, f ⟨e.val, by omega⟩ := by
  rw [upTo, Finset.sum_range]
  refine Finset.sum_congr rfl fun e _ => ?_
  rw [dif_pos (by omega)]

theorem pay4_apply (v0 : Vec Ideal S1x256x128 .f32) (v2 : Vec Ideal S1x128x4096 .f32)
    (r : Fin 256) (n : Fin 4096) :
    k0_pay4 (F := Ideal) v0 v2 (ix2 r n) = ∑ x : Fin 128, v0 (ix3 0 r x) * v2 (ix3 0 x n) := by
  pointwise [k0_pay4, k0_pay2, k0_pay3]

theorem pay5_apply (v2 : Vec Ideal S1x128x4096 .f32) (e : Fin 128) (n : Fin 4096) :
    k0_pay5 (F := Ideal) v2 (ix2 e n) = v2 (ix3 0 e n) * v2 (ix3 0 e n) := by
  pointwise [k0_pay5, k0_pay3]

theorem pay10_apply (v0 : Vec Ideal S1x256x128 .f32) (r : Fin 256) (e : Fin 128) :
    k0_pay10 (F := Ideal) (k0_pay2 v0) (ix2 r e) = v0 (ix3 0 r e) * v0 (ix3 0 r e) := by
  pointwise [k0_pay10, k0_pay2]

theorem pay6_apply (v2 : Vec Ideal S1x128x4096 .f32) (n : Fin 4096) :
    k0_pay6 (F := Ideal) v2 (ix2 0 n) = upTo (fun e => k0_pay5 v2 (ix2 e n)) 23 := by
  pointwise [k0_pay6]
  simp (discharger := omega) only [upTo_succ, upTo_zero, zero_add]
  rfl

theorem pay7_apply (w : FVec Ideal S128x4096 .f32) (s : FVec Ideal S1x4096 .f32) (n : Fin 4096)
    (hs : s (ix2 0 n) = upTo (fun e => w (ix2 e n)) 23) :
    k0_pay7 (F := Ideal) w s (ix2 0 n) = upTo (fun e => w (ix2 e n)) 53 := by
  pointwise [k0_pay7]
  rw [hs]
  simp (discharger := omega) only [upTo_succ, upTo_zero]
  rfl

theorem pay8_apply (w : FVec Ideal S128x4096 .f32) (s : FVec Ideal S1x4096 .f32) (n : Fin 4096)
    (hs : s (ix2 0 n) = upTo (fun e => w (ix2 e n)) 53) :
    k0_pay8 (F := Ideal) w s (ix2 0 n) = upTo (fun e => w (ix2 e n)) 83 := by
  pointwise [k0_pay8]
  rw [hs]
  simp (discharger := omega) only [upTo_succ, upTo_zero]
  rfl

theorem pay9_apply (w : FVec Ideal S128x4096 .f32) (s : FVec Ideal S1x4096 .f32) (n : Fin 4096)
    (hs : s (ix2 0 n) = upTo (fun e => w (ix2 e n)) 83) :
    k0_pay9 (F := Ideal) w s (ix2 0 n) = upTo (fun e => w (ix2 e n)) 96 := by
  pointwise [k0_pay9]
  rw [hs]
  simp (discharger := omega) only [upTo_succ, upTo_zero]
  rfl

theorem pay11_apply (v : FVec Ideal S256x128 .f32) (r : Fin 256) :
    k0_pay11 (F := Ideal) v (ix2 r 0) = upTo (fun e => k0_pay10 v (ix2 r e)) 17 := by
  pointwise [k0_pay11]
  simp (discharger := omega) only [upTo_succ, upTo_zero, zero_add]
  rfl

theorem pay12_apply (w : FVec Ideal S256x128 .f32) (s : FVec Ideal S256x1 .f32) (r : Fin 256)
    (hs : s (ix2 r 0) = upTo (fun e => w (ix2 r e)) 17) :
    k0_pay12 (F := Ideal) w s (ix2 r 0) = upTo (fun e => w (ix2 r e)) 47 := by
  pointwise [k0_pay12]
  rw [hs]
  simp (discharger := omega) only [upTo_succ, upTo_zero]
  rfl

theorem pay13_apply (w : FVec Ideal S256x128 .f32) (s : FVec Ideal S256x1 .f32) (r : Fin 256)
    (hs : s (ix2 r 0) = upTo (fun e => w (ix2 r e)) 47) :
    k0_pay13 (F := Ideal) w s (ix2 r 0) = upTo (fun e => w (ix2 r e)) 77 := by
  pointwise [k0_pay13]
  rw [hs]
  simp (discharger := omega) only [upTo_succ, upTo_zero]
  rfl

theorem pay14_apply (ip : FVec Ideal S256x4096 .f32) (kk : FVec Ideal S1x4096 .f32)
    (w : FVec Ideal S256x128 .f32) (s : FVec Ideal S256x1 .f32) (r : Fin 256) (n : Fin 4096)
    (hs : s (ix2 r 0) = upTo (fun e => w (ix2 r e)) 77) :
    k0_pay14 (F := Ideal) ip kk w s (ix2 r n)
      = upTo (fun e => w (ix2 r e)) 96 - Ideal.ofBits .f32 0x40000000#32 * ip (ix2 r n)
        + kk (ix2 0 n) := by
  pointwise [k0_pay14]
  rw [hs]
  simp (discharger := omega) only [upTo_succ, upTo_zero]
  rfl

/-- One block of distances, entry by entry. -/
theorem distBlk_apply (v0 : Vec Ideal S1x256x128 .f32) (v2 : Vec Ideal S1x128x4096 .f32)
    (r : Fin 256) (n : Fin 4096) :
    distBlk (F := Ideal) v0 v2 (ix2 r n)
      = upTo (fun e => v0 (ix3 0 r e) * v0 (ix3 0 r e)) 96
          - Ideal.ofBits .f32 0x40000000#32 * (∑ x : Fin 128, v0 (ix3 0 r x) * v2 (ix3 0 x n))
        + upTo (fun e => v2 (ix3 0 e n) * v2 (ix3 0 e n)) 96 := by
  rw [distBlk, qqOf, pay14_apply _ _ _ _ _ _
    (pay13_apply _ _ _ (pay12_apply _ _ _ (pay11_apply _ _))), pay4_apply, kkOf,
    pay9_apply _ _ _ (pay8_apply _ _ _ (pay7_apply _ _ _ (pay6_apply _ _)))]
  simp only [pay10_apply, pay5_apply]

/-- Thirty-two zeros after ninety-six products add nothing. -/
theorem sum_padded (f g : Fin 96 → EReal) :
    (∑ x : Fin 128, (if h : x.val < 96 then f ⟨x.val, h⟩ else 0)
        * (if h : x.val < 96 then g ⟨x.val, h⟩ else 0)) = ∑ e : Fin 96, f e * g e := by
  rw [← Fin.sum_congr' _ (show 96 + 32 = 128 from rfl), Fin.sum_univ_add]
  have h1 : ∀ e : Fin 96, (Fin.cast (show 96 + 32 = 128 from rfl) (Fin.castAdd 32 e)).val = e.val :=
    fun _ => rfl
  have h2 : ∀ e : Fin 32, (Fin.cast (show 96 + 32 = 128 from rfl) (Fin.natAdd 96 e)).val
      = 96 + e.val := fun _ => rfl
  simp only [h1, h2, Fin.is_lt, dite_true, not_lt.mpr (Nat.le_add_right 96 _), dite_false,
    mul_zero, Finset.sum_const_zero, add_zero]

/-- So a block of padded queries and keys holds the distances of what was padded. -/
theorem distBlk_padded (v0 : Vec Ideal S1x256x128 .f32) (v2 : Vec Ideal S1x128x4096 .f32)
    (r : Fin 256) (n : Fin 4096) (f g : Fin 96 → EReal)
    (hf : ∀ e : Fin 128, v0 (ix3 0 r e) = if h : e.val < 96 then f ⟨e.val, h⟩ else 0)
    (hg : ∀ e : Fin 128, v2 (ix3 0 e n) = if h : e.val < 96 then g ⟨e.val, h⟩ else 0) :
    distBlk (F := Ideal) v0 v2 (ix2 r n)
      = (∑ e, f e * f e) - Ideal.ofBits .f32 0x40000000#32 * (∑ e, f e * g e) + ∑ e, g e * g e := by
  rw [distBlk_apply, upTo_96, upTo_96]
  simp only [hf, hg, sum_padded]
  simp only [Fin.is_lt, dite_true, Fin.eta]

variable (m : (ℓ : Loc nD τ sig) → Buf (Elt Ideal) ℓ) (d : Dev nD)

/-- A block's query is the row it came from, with zeros after its 96 features, -/
theorem blkQ_apply (b : Fin 4) (p : Fin 4096) (e : Fin 128) :
    blkQ (F := Ideal) (W1 m d (Proc.devRef .tc main_v3)) b (⟨p.val / 256, by omega⟩ : Fin 16)
        (ix3 0 (⟨p.val % 256, Nat.mod_lt _ (by decide)⟩ : Fin 256) e)
      = if h : e.val < 96 then feat (feats m d) b p ⟨e.val, h⟩ else 0 := by
  rw [← W1_v3]
  show (W1 m d (Proc.devRef .tc main_v3) : S4x4096x128.Idx → EReal)
    (ix3 b (⟨256 * (p.val / 256) + p.val % 256, _⟩ : Fin 4096) e) = _
  have e1 : (⟨256 * (p.val / 256) + p.val % 256, by omega⟩ : Fin 4096) = p :=
    Fin.ext (by show 256 * (p.val / 256) + p.val % 256 = p.val; omega)
  rw [e1]

/-- and a batch's key the column it came from. -/
theorem blkK_apply (b : Fin 4) (q : Fin 4096) (e : Fin 128) :
    blkK (F := Ideal) (W1 m d (Proc.devRef .tc main_v4)) b (ix3 0 e q)
      = if h : e.val < 96 then feat (feats m d) b q ⟨e.val, h⟩ else 0 :=
  W1_v4 m d b q e

/-- Row `p` of the kernel's distances is the row of plain distances. -/
theorem row_dist (b : Fin 4) (p : Fin 4096) :
    rowAt (distBlk (F := Ideal)
        (blkQ (W1 m d (Proc.devRef .tc main_v3)) b (⟨p.val / 256, by omega⟩ : Fin 16))
        (blkK (W1 m d (Proc.devRef .tc main_v4)) b))
      (⟨p.val % 256, Nat.mod_lt _ (by decide)⟩ : Fin 256) = dist (feats m d) b p := by
  funext q
  exact distBlk_padded _ _ _ _ _ _ (blkQ_apply m d b p) (blkK_apply m d b q)

/-- The neighbours are picked by the plain distances. -/
theorem near_eq (b : Fin 4) (p : Fin 4096) (k : Fin 32) :
    near m d b p k = pick (dist (feats m d) b p) k.val := by
  rw [near, row_dist]

end Cert.Proof.Knn
-- ==== Proof.Plain.lean ====
module
public import proofs.«01_k».proof.Proof.Dist
public import proofs.«01_k».proof.Proof.Gen.ReferenceIdeal.Run
public import proofs.«01_k».proof.Proof.Gen.Pre_finite_fts
public import Idealize.ShloMosaic.Lib.ReduceAll
/-!
# What the reference computes

The reference's distances are the plain ones, its top-k picks the same neighbours as the rounds do
when no distance is infinite, and its gathers read the neighbours' rows.
-/
@[expose] public section
set_option maxRecDepth 16384
noncomputable section
namespace Cert.Proof.Knn
open Cert.ReferenceIdeal Cert.ReferenceIdeal.Gen
open Idealize.ShloMosaic

/-- The negated distances, as the reference computes them. -/
def negDist (x : Vec Ideal S4x32x3x4096 .f32) : Vec Ideal S4x4096x4096 .f32 :=
  let y : Vec Ideal S4x4096x96 .f32 := transpose S4x4096x96 [0, 2, 1]
    (shapeCast _ x shapeCasts_S4x32x3x4096_S4x96x4096) transposes_S4x96x4096_S4x4096x96_0_2_1
  let n : Vec Ideal S4x4096 .f32 := Host.reduceAdd (F := Ideal) (φ := .f32) (mulf (F := Ideal) (φ := .f32) y y)
    (constant (F := Ideal) S_ .f32 0x00000000#32) reducesTo_S4x4096x96_S4x4096_d2 h_S_
  Host.negf (F := Ideal) (φ := .f32) (addf (F := Ideal) (φ := .f32)
    (subf (F := Ideal) (φ := .f32)
      (broadcastInDim S4x4096x4096 ![0, 1, 2] bcast_S4x4096x1_S4x4096x4096_0_1_2
        (broadcastInDim S4x4096x1 ![0, 1] bcast_S4x4096_S4x4096x1_0_1 n))
      (mulf (F := Ideal) (φ := .f32)
        (broadcastInDim S4x4096x4096 ![] bcast_S_S4x4096x4096 (constant (F := Ideal) S_ .f32 0x40000000#32))
        (Host.dotGeneral (F := Ideal) (φ₁ := .f32) (φ₂ := .f32) dot_S4x4096x96_S4x4096x96_S4x4096x4096_2_2_1_1_0_0 none y y)))
    (broadcastInDim S4x4096x4096 ![0, 1, 2] bcast_S4x1x4096_S4x4096x4096_0_1_2
      (broadcastInDim S4x1x4096 ![0, 2] bcast_S4x4096_S4x1x4096_0_2 n)))

/-- Entry by entry they are the plain distances, negated. -/
theorem negDist_apply (x : Vec Ideal S4x32x3x4096 .f32) (b : Fin 4) (p q : Fin 4096) :
    negDist x (ix3 b p q) = - dist x b p q := by
  unfold dist feat
  pointwise [negDist]

/-- The top-k's indices, -/
def topIdx (x : Vec Ideal S4x32x3x4096 .f32) : IVec S4x4096x32 32 :=
  (Host.topK S4x4096x32 2 (FloatOps.cmpfTotal (F := Ideal) (φ := .f32) .gt) (negDist x)
    sliceFits_S4x4096x4096_S4x4096x32).2

/-- and the start indices of the gathers: the wrapped top-k's indices. -/
def startIdx (x : Vec Ideal S4x32x3x4096 .f32) : IVec S4x4096x32x1 32 :=
  broadcastInDim S4x4096x32x1 ![0, 1, 2] bcast_S4x4096x32_S4x4096x32x1_0_1_2
    (select (cmpi .slt (topIdx x) (broadcastInDim S4x4096x32 ![] bcast_S_S4x4096x32 (constantI S_ 32 0#32)))
      (addi (topIdx x) (broadcastInDim S4x4096x32 ![] bcast_S_S4x4096x32 (constantI S_ 32 4096#32)))
      (topIdx x))

attribute [local irreducible] sortedFrom in
/-- At a distance below infinity everywhere, the top-k's index of place `k` is the `k`-th pick. -/
theorem topIdx_apply (x : Vec Ideal S4x32x3x4096 .f32) (b : Fin 4) (p : Fin 4096) (k : Fin 32)
    (hfin : ∀ q, dist x b p q < ⊤) :
    topIdx x (ix3 b p k) = BitVec.ofNat 32 (pick (dist x b p) k.val).val := by
  have key := sortedFrom_eq_pick (v := dist x b p) hfin
    (fun q q' => FloatOps.cmpfTotal (F := Ideal) (φ := .f32) .gt (negDist x (ix3 b p q)) (negDist x (ix3 b p q')) == 1#1)
    (fun q q' => by
      rw [negDist_apply, negDist_apply]
      show (BitVec.ofBool (decide (- dist x b p q' < - dist x b p q)) == 1#1) = true ↔ _
      simp only [EReal.neg_lt_neg_iff]
      by_cases h : dist x b p q < dist x b p q' <;> simp [h])
    (⟨k.val, by omega⟩ : Fin 4096)
  have es : ∀ y : IVec S4x4096x4096 32, extractStridedSlice S4x4096x32 (fun _ => 0) y
      sliceFits_S4x4096x4096_S4x4096x32 (ix3 b p k) = y (ix3 b p (⟨k.val, by omega⟩ : Fin 4096)) := fun y => by
    unfold extractStridedSlice
    refine congrArg y (funext fun a => Fin.ext ?_)
    match a with
    | ⟨0, _⟩ => exact Nat.zero_add _
    | ⟨1, _⟩ => exact Nat.zero_add _
    | ⟨2, _⟩ => exact Nat.zero_add _
  have ea : ∀ q r : Fin 4096, (ix3 b p r : S4x4096x4096.Idx).along (2 : Fin 3) q = ix3 b p q := fun q r => by
    funext a
    match a with
    | ⟨0, _⟩ => rfl
    | ⟨1, _⟩ => rfl
    | ⟨2, _⟩ => rfl
  rw [← key]
  unfold topIdx Host.topK Host.sort2
  dsimp only
  rw [es, dif_pos (show 2 < 3 by decide)]
  have ef : (fun q q' : Fin 4096 => FloatOps.cmpfTotal (F := Ideal) (φ := .f32) .gt
      (negDist x ((ix3 b p (⟨k.val, by omega⟩ : Fin 4096) : S4x4096x4096.Idx).along (2 : Fin 3) q))
      (negDist x ((ix3 b p (⟨k.val, by omega⟩ : Fin 4096) : S4x4096x4096.Idx).along (2 : Fin 3) q')) == 1#1)
      = fun q q' => FloatOps.cmpfTotal (F := Ideal) (φ := .f32) .gt (negDist x (ix3 b p q)) (negDist x (ix3 b p q')) == 1#1 :=
    funext fun q => funext fun q' => congrArg₂ (fun u v => FloatOps.cmpfTotal (F := Ideal) (φ := .f32) .gt (negDist x u)
      (negDist x v) == 1#1) (ea q _) (ea q' _)
  exact (congrArg (fun u : S4x4096x4096.Idx => BitVec.ofNat 32 (u (2 : Fin 3)).val) (ea _ _)).trans
    (congrArg (fun g : Fin 4096 → Fin 4096 → Bool => BitVec.ofNat 32 (sortedFrom g (⟨k.val, by omega⟩ : Fin 4096)).val) ef)

/-- The start index of a gather is the index itself: it is not negative. -/
theorem startIdx_apply (x : Vec Ideal S4x32x3x4096 .f32) (b : Fin 4) (p : Fin 4096) (k : Fin 32)
    (hfin : ∀ q, dist x b p q < ⊤) :
    startIdx x (ix4 b p k 0) = BitVec.ofNat 32 (pick (dist x b p) k.val).val := by
  have hn := (pick (dist x b p) k.val).isLt
  unfold startIdx
  generalize hy : topIdx x = y
  pointwise
  rw [← hy, topIdx_apply x b p k hfin]
  have h0 : IntOp.cmpi .slt (BitVec.ofNat 32 (pick (dist x b p) k.val).val) 0#32 = 0#1 := by
    have e : ¬ (BitVec.ofNat 32 (pick (dist x b p) k.val).val).toInt < 0 := by
      rw [toInt_ofNat_of_lt (by omega)]; omega
    simp [IntOp.cmpi, BitVec.slt, e]
  rw [h0]
  rfl

/-- The first gather reads the row its start index names, -/
theorem gather_coords (x : Vec Ideal S4x4096x3 .f32) (idx : IVec S4x4096x32x1 32) (b : Fin 4) (p : Fin 4096)
    (k : Fin 32) (e : Fin 3) (n : Fin 4096) (hn : idx (ix4 b p k 0) = BitVec.ofNat 32 n.val) :
    Host.gather gather_S4x4096x3_S4x4096x32x1_S4x4096x32x3_3_1_0_0_1_3_113 x idx (ix4 b p k e) = x (ix3 b n e) := by
  have h := n.isLt
  unfold Host.gather
  refine congrArg x (funext fun a => Fin.ext ?_)
  have hs : gather_S4x4096x3_S4x4096x32x1_S4x4096x32x3_3_1_0_0_1_3_113.start (ix4 b p k e) idx 1 = n.val := by
    unfold GatherDims.start
    rw [dif_pos (by decide)]
    have hi : gather_S4x4096x3_S4x4096x32x1_S4x4096x32x3_3_1_0_0_1_3_113.siIdx (ix4 b p k e) ⟨0, by decide⟩ = ix4 b p k 0 := by
      funext a
      match a with
      | ⟨0, _⟩ => rfl
      | ⟨1, _⟩ => rfl
      | ⟨2, _⟩ => rfl
      | ⟨3, _⟩ => rfl
    rw [show (⟨List.idxOf (1 : Fin 3) gather_S4x4096x3_S4x4096x32x1_S4x4096x32x3_3_1_0_0_1_3_113.startIndexMap, _⟩ : Fin gather_S4x4096x3_S4x4096x32x1_S4x4096x32x3_3_1_0_0_1_3_113.startIndexMap.length) = ⟨0, by decide⟩ from rfl, hi, hn,
      toInt_ofNat_of_lt (by omega), Int.toNat_natCast]
    exact min_eq_left (by show n.val ≤ 4095; omega)
  match a with
  | ⟨0, _⟩ =>
    show gather_S4x4096x3_S4x4096x32x1_S4x4096x32x3_3_1_0_0_1_3_113.start (ix4 b p k e) idx 0 + gather_S4x4096x3_S4x4096x32x1_S4x4096x32x3_3_1_0_0_1_3_113.batchCoord (ix4 b p k e) 0 + gather_S4x4096x3_S4x4096x32x1_S4x4096x32x3_3_1_0_0_1_3_113.offCoord (ix4 b p k e) 0 = _
    unfold GatherDims.start
    rw [dif_neg (by decide), Nat.zero_add]
    first | exact Nat.zero_add _ | rfl
  | ⟨1, _⟩ =>
    show gather_S4x4096x3_S4x4096x32x1_S4x4096x32x3_3_1_0_0_1_3_113.start (ix4 b p k e) idx 1 + gather_S4x4096x3_S4x4096x32x1_S4x4096x32x3_3_1_0_0_1_3_113.batchCoord (ix4 b p k e) 1 + gather_S4x4096x3_S4x4096x32x1_S4x4096x32x3_3_1_0_0_1_3_113.offCoord (ix4 b p k e) 1 = n.val
    rw [hs, GatherDims.batchCoord_eq_zero _ _ _ (by decide), GatherDims.offCoord_eq_zero _ _ _ (by decide)]
    rfl
  | ⟨2, _⟩ =>
    show gather_S4x4096x3_S4x4096x32x1_S4x4096x32x3_3_1_0_0_1_3_113.start (ix4 b p k e) idx 2 + gather_S4x4096x3_S4x4096x32x1_S4x4096x32x3_3_1_0_0_1_3_113.batchCoord (ix4 b p k e) 2 + gather_S4x4096x3_S4x4096x32x1_S4x4096x32x3_3_1_0_0_1_3_113.offCoord (ix4 b p k e) 2 = _
    unfold GatherDims.start
    rw [dif_neg (by decide), Nat.zero_add]
    first | exact Nat.zero_add _ | rfl

/-- and the second the column. -/
theorem gather_feats (x : Vec Ideal S4x32x3x4096 .f32) (idx : IVec S4x4096x32x1 32) (b : Fin 4) (f : Fin 32)
    (e : Fin 3) (p : Fin 4096) (k : Fin 32) (n : Fin 4096) (hn : idx (ix4 b p k 0) = BitVec.ofNat 32 n.val) :
    Host.gather gather_S4x32x3x4096_S4x4096x32x1_S4x32x3x4096x32_12_3_0_0_3_3_13231 x idx (ix5 b f e p k)
      = x (ix4 b f e n) := by
  have h := n.isLt
  unfold Host.gather
  refine congrArg x (funext fun a => Fin.ext ?_)
  have hs : gather_S4x32x3x4096_S4x4096x32x1_S4x32x3x4096x32_12_3_0_0_3_3_13231.start (ix5 b f e p k) idx 3 = n.val := by
    unfold GatherDims.start
    rw [dif_pos (by decide)]
    have hi : gather_S4x32x3x4096_S4x4096x32x1_S4x32x3x4096x32_12_3_0_0_3_3_13231.siIdx (ix5 b f e p k) ⟨0, by decide⟩ = ix4 b p k 0 := by
      funext a
      match a with
      | ⟨0, _⟩ => rfl
      | ⟨1, _⟩ => rfl
      | ⟨2, _⟩ => rfl
      | ⟨3, _⟩ => rfl
    rw [show (⟨List.idxOf (3 : Fin 4) gather_S4x32x3x4096_S4x4096x32x1_S4x32x3x4096x32_12_3_0_0_3_3_13231.startIndexMap, _⟩ : Fin gather_S4x32x3x4096_S4x4096x32x1_S4x32x3x4096x32_12_3_0_0_3_3_13231.startIndexMap.length) = ⟨0, by decide⟩ from rfl, hi, hn,
      toInt_ofNat_of_lt (by omega), Int.toNat_natCast]
    exact min_eq_left (by show n.val ≤ 4095; omega)
  match a with
  | ⟨0, _⟩ =>
    show gather_S4x32x3x4096_S4x4096x32x1_S4x32x3x4096x32_12_3_0_0_3_3_13231.start (ix5 b f e p k) idx 0 + gather_S4x32x3x4096_S4x4096x32x1_S4x32x3x4096x32_12_3_0_0_3_3_13231.batchCoord (ix5 b f e p k) 0 + gather_S4x32x3x4096_S4x4096x32x1_S4x32x3x4096x32_12_3_0_0_3_3_13231.offCoord (ix5 b f e p k) 0 = _
    unfold GatherDims.start
    rw [dif_neg (by decide), Nat.zero_add]
    first | exact Nat.zero_add _ | rfl
  | ⟨1, _⟩ =>
    show gather_S4x32x3x4096_S4x4096x32x1_S4x32x3x4096x32_12_3_0_0_3_3_13231.start (ix5 b f e p k) idx 1 + gather_S4x32x3x4096_S4x4096x32x1_S4x32x3x4096x32_12_3_0_0_3_3_13231.batchCoord (ix5 b f e p k) 1 + gather_S4x32x3x4096_S4x4096x32x1_S4x32x3x4096x32_12_3_0_0_3_3_13231.offCoord (ix5 b f e p k) 1 = _
    unfold GatherDims.start
    rw [dif_neg (by decide), Nat.zero_add]
    first | exact Nat.zero_add _ | rfl
  | ⟨2, _⟩ =>
    show gather_S4x32x3x4096_S4x4096x32x1_S4x32x3x4096x32_12_3_0_0_3_3_13231.start (ix5 b f e p k) idx 2 + gather_S4x32x3x4096_S4x4096x32x1_S4x32x3x4096x32_12_3_0_0_3_3_13231.batchCoord (ix5 b f e p k) 2 + gather_S4x32x3x4096_S4x4096x32x1_S4x32x3x4096x32_12_3_0_0_3_3_13231.offCoord (ix5 b f e p k) 2 = _
    unfold GatherDims.start
    rw [dif_neg (by decide), Nat.zero_add]
    first | exact Nat.zero_add _ | rfl
  | ⟨3, _⟩ =>
    show gather_S4x32x3x4096_S4x4096x32x1_S4x32x3x4096x32_12_3_0_0_3_3_13231.start (ix5 b f e p k) idx 3 + gather_S4x32x3x4096_S4x4096x32x1_S4x32x3x4096x32_12_3_0_0_3_3_13231.batchCoord (ix5 b f e p k) 3 + gather_S4x32x3x4096_S4x4096x32x1_S4x32x3x4096x32_12_3_0_0_3_3_13231.offCoord (ix5 b f e p k) 3 = n.val
    rw [hs, GatherDims.batchCoord_eq_zero _ _ _ (by decide), GatherDims.offCoord_eq_zero _ _ _ (by decide)]
    rfl

variable (m : (ℓ : Loc nD τ sig) → Buf (Elt Ideal) ℓ) (c : Dev nD)

theorem v24_eq : Value.res_main_v24 (F := Ideal) m c
    = Host.gather gather_S4x4096x3_S4x4096x32x1_S4x4096x32x3_3_1_0_0_1_3_113
        (m ((c.tc : Thread nD τ).loc main_arg0)) (startIdx (m ((c.tc : Thread nD τ).loc main_arg1))) := by
  delta Value.res_main_v24
  rfl

theorem v31_eq : Value.res_main_v31 (F := Ideal) m c
    = Host.gather gather_S4x32x3x4096_S4x4096x32x1_S4x32x3x4096x32_12_3_0_0_3_3_13231
        (m ((c.tc : Thread nD τ).loc main_arg1)) (startIdx (m ((c.tc : Thread nD τ).loc main_arg1))) := by
  delta Value.res_main_v31
  rfl

theorem v32_eq : Value.res_main_v32 (F := Ideal) m c
    = extractStridedSlice S4x32x3x4096x1 ![0, 0, 0, 0, 0] (Host.gather gather_S4x32x3x4096_S4x4096x32x1_S4x32x3x4096x32_12_3_0_0_3_3_13231
        (m ((c.tc : Thread nD τ).loc main_arg1)) (startIdx (m ((c.tc : Thread nD τ).loc main_arg1))))
        slices_S4x32x3x4096x32_S4x32x3x4096x1_0_0_0_0_0 := by
  delta Value.res_main_v32
  rfl

/-! ## Finite features have finite distances -/

/-- A value that is a real number. -/
def IsReal (z : EReal) : Prop := ∃ r : ℝ, z = (r : EReal)

theorem IsReal.mul {y z : EReal} (hy : IsReal y) (hz : IsReal z) : IsReal (y * z) := by
  obtain ⟨a, rfl⟩ := hy
  obtain ⟨b, rfl⟩ := hz
  exact ⟨a * b, (EReal.coe_mul a b).symm⟩

theorem IsReal.add {y z : EReal} (hy : IsReal y) (hz : IsReal z) : IsReal (y + z) := by
  obtain ⟨a, rfl⟩ := hy
  obtain ⟨b, rfl⟩ := hz
  exact ⟨a + b, (EReal.coe_add a b).symm⟩

theorem IsReal.sub {y z : EReal} (hy : IsReal y) (hz : IsReal z) : IsReal (y - z) := by
  obtain ⟨a, rfl⟩ := hy
  obtain ⟨b, rfl⟩ := hz
  exact ⟨a - b, (EReal.coe_sub a b).symm⟩

theorem IsReal.sum {n : ℕ} (f : Fin n → EReal) (hf : ∀ e, IsReal (f e)) : IsReal (∑ e, f e) :=
  Finset.sum_induction f IsReal (fun _ _ => IsReal.add) ⟨0, rfl⟩ fun e _ => hf e

theorem isReal_two : IsReal (Ideal.ofBits .f32 0x40000000#32) := by
  simp [Ideal.ofBits, Ideal.ieee]
  exact IsReal.mul ⟨_, rfl⟩ ⟨_, rfl⟩

/-- Where every feature is real, every distance is below infinity. -/
theorem dist_lt_top (x : Vec Ideal S4x32x3x4096 .f32) (hx : ∀ j, IsReal (x j)) (b : Fin 4) (p q : Fin 4096) :
    dist x b p q < ⊤ := by
  have h : ∀ p' q' : Fin 4096, IsReal (∑ e : Fin 96, feat x b p' e * feat x b q' e) := fun p' q' =>
    IsReal.sum _ fun e => (hx _).mul (hx _)
  obtain ⟨r, hr⟩ := ((h p p).sub (isReal_two.mul (h p q))).add (h q q)
  rw [dist, hr]
  exact EReal.coe_lt_top r

/-- The precondition says that every feature is real. -/
theorem isReal_of_pre (x0 : Vec Ideal S4x4096x3 .f32) (x : Vec Ideal S4x32x3x4096 .f32)
    (h : Cert.Pre_finite_fts.fn (F := Ideal) x0 x = fun _ => 1#1) (j : S4x32x3x4096.Idx) : IsReal (x j) := by
  have h1 := congrFun h (fun a => Fin.elim0 a)
  dsimp only [Cert.Pre_finite_fts.fn] at h1
  have h2 := Host.reduce_andi_all _ _ _ _ _ h1 j
  have h3 : max (x j) (- x j) < ⊤ := by
    have htop : Ideal.ofBits .f32 0x7F800000#32 = ⊤ := by simp [Ideal.ofBits, Ideal.ieee]
    rw [← htop]
    exact (WordCmp.ofBool_decide_eq_one_iff _).1 h2
  have h4 : x j ≠ ⊤ := fun e => by rw [e] at h3; simp at h3
  have h5 : x j ≠ ⊥ := fun e => by rw [e] at h3; simp at h3
  exact ⟨(x j).toReal, (EReal.coe_toReal h4 h5).symm⟩

/-! ## The results, entry by entry -/

/-- The arguments' launch contents. -/
def coordsR : S4x4096x3.Idx → EReal := m ((c.tc : Thread nD τ).loc main_arg0)
def featsR : S4x32x3x4096.Idx → EReal := m ((c.tc : Thread nD τ).loc main_arg1)

theorem v24_apply (hfin : ∀ b p q, dist (featsR m c) b p q < ⊤) (b : Fin 4) (p : Fin 4096) (k : Fin 32) (e : Fin 3) :
    (Value.res_main_v24 (F := Ideal) m c : S4x4096x32x3.Idx → EReal) (ix4 b p k e)
      = coordsR m c (ix3 b (pick (dist (featsR m c) b p) k.val) e) := by
  rw [v24_eq]
  exact gather_coords _ _ b p k e _ (startIdx_apply _ b p k (hfin b p))

theorem v31_apply (hfin : ∀ b p q, dist (featsR m c) b p q < ⊤) (b : Fin 4) (f : Fin 32) (e : Fin 3) (p : Fin 4096)
    (k : Fin 32) :
    (Value.res_main_v31 (F := Ideal) m c : S4x32x3x4096x32.Idx → EReal) (ix5 b f e p k)
      = featsR m c (ix4 b f e (pick (dist (featsR m c) b p) k.val)) := by
  rw [v31_eq]
  exact gather_feats _ _ b f e p k _ (startIdx_apply _ b p k (hfin b p))

theorem v32_apply (hfin : ∀ b p q, dist (featsR m c) b p q < ⊤) (b : Fin 4) (f : Fin 32) (e : Fin 3) (p : Fin 4096) :
    (Value.res_main_v32 (F := Ideal) m c : S4x32x3x4096x1.Idx → EReal) (ix5 b f e p 0)
      = featsR m c (ix4 b f e (pick (dist (featsR m c) b p) (0 : Fin 32).val)) := by
  rw [v32_eq]
  generalize hy : Host.gather _ _ _ = y
  have hs : extractStridedSlice S4x32x3x4096x1 ![0, 0, 0, 0, 0] y slices_S4x32x3x4096x32_S4x32x3x4096x1_0_0_0_0_0
      (ix5 b f e p 0) = y (ix5 b f e p 0) := by
    pointwise
  refine hs.trans ?_
  rw [← hy]
  exact gather_feats _ _ b f e p 0 _ (startIdx_apply _ b p 0 (hfin b p))

end Cert.Proof.Knn
-- ==== Proof.Equal.lean ====
/-
  The two programs' results, from memories that agree on the arguments and hold finite features: equal, entry by entry.
-/
module

public import proofs.«01_k».proof.Proof.Plain

@[expose] public section

set_option maxRecDepth 16384

noncomputable section

namespace Cert.Proof.Knn

open Idealize.ShloMosaic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem equal_v22 (h0 : coordsR m' c = coords m c) (h1 : featsR m' c = feats m c)
    (hfin : ∀ b p q, dist (featsR m' c) b p q < ⊤) :
    W5 m c (Proc.devRef .tc Cert.KernelIdeal.main_v22) = Cert.ReferenceIdeal.Value.res_main_v24 (F := Ideal) m' c := by
  refine funext fun j : Cert.KernelIdeal.S4x4096x32x3.Idx => ?_
  obtain ⟨b, p, k, e, rfl⟩ : ∃ (b : Fin 4) (p : Fin 4096) (k : Fin 32) (e : Fin 3), j = ix4 b p k e :=
    ⟨j 0, j 1, j 2, j 3, eq_ix4 j⟩
  refine (W5_v22 m c b p k e).trans ((v24_apply m' c hfin b p k e).trans ?_).symm
  rw [near_eq, h0, h1]

theorem equal_v21 (h1 : featsR m' c = feats m c) (hfin : ∀ b p q, dist (featsR m' c) b p q < ⊤) :
    W5 m c (Proc.devRef .tc Cert.KernelIdeal.main_v21) = Cert.ReferenceIdeal.Value.res_main_v31 (F := Ideal) m' c := by
  refine funext fun j : Cert.KernelIdeal.S4x32x3x4096x32.Idx => ?_
  obtain ⟨b, f, e, p, k, rfl⟩ : ∃ (b : Fin 4) (f : Fin 32) (e : Fin 3) (p : Fin 4096) (k : Fin 32), j = ix5 b f e p k :=
    ⟨j 0, j 1, j 2, j 3, j 4, eq_ix5 j⟩
  refine (W5_v21 m c b f e p k).trans ((v31_apply m' c hfin b f e p k).trans ?_).symm
  rw [near_eq, h1]

theorem equal_v23 (h1 : featsR m' c = feats m c) (hfin : ∀ b p q, dist (featsR m' c) b p q < ⊤) :
    W5 m c (Proc.devRef .tc Cert.KernelIdeal.main_v23) = Cert.ReferenceIdeal.Value.res_main_v32 (F := Ideal) m' c := by
  refine funext fun j : Cert.KernelIdeal.S4x32x3x4096x1.Idx => ?_
  obtain ⟨b, f, e, p, z, rfl⟩ : ∃ (b : Fin 4) (f : Fin 32) (e : Fin 3) (p : Fin 4096) (z : Fin 1), j = ix5 b f e p z :=
    ⟨j 0, j 1, j 2, j 3, j 4, eq_ix5 j⟩
  obtain rfl : z = 0 := Subsingleton.elim _ _
  refine (W5_v23 m c b f e p).trans ((v32_apply m' c hfin b f e p).trans ?_).symm
  rw [near_eq, h1]

end Cert.Proof.Knn

end
-- ==== Proof.lean ====
/-
  The proof of `Cert.Claim`: the kernel's frame and the reference's, with and without the precondition, and the
  equality of all four results.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_fts
public import proofs.«01_k».proof.Proof.Equal
public import Idealize.ShloMosaic.Lib.Claim

@[expose] public section

noncomputable section

namespace Cert.Proof

open Idealize.ShloMosaic Idealize.SL.Sem

open Cert.Proof.Knn

attribute [local instance] Cert.KernelIdeal.Gen.facts Cert.ReferenceIdeal.Gen.facts Cert.Pre_finite_fts.Gen.facts

/-- The kernel's frame, from any memory. -/
theorem frame_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c Cert.KernelIdeal.main_arg0 rfl).trans (W5_arg0 m c),
      (h.1 c Cert.KernelIdeal.main_arg1 rfl).trans (W5_arg1 m c)⟩, h.2⟩)
    (run_main m g (idxOf_inRange m))

/-- The reference's frame: it has no semaphore. -/
theorem frame_reference : quiescent_ReferenceIdeal := by
  intro m g _
  exact (θ_run Cert.ReferenceIdeal.defs _ _).mono
    (fun _ h => ⟨fun c => ⟨(h c).2.2.2.2.1, (h c).2.2.2.2.2⟩, by
      funext s
      exact nomatch s.2⟩)
    (Cert.ReferenceIdeal.Value.run m g)

theorem frame_reference_pre : quiescent_ReferenceIdeal_pre_finite_fts := fun m g _ => frame_reference m g trivial

/-- The equality of all four results. -/
theorem equal_results : algebraic_KernelIdeal_ReferenceIdeal_pre_finite_fts := by
  intro m g m' g' hpre hagree
  have h0 : ∀ c, coordsR m' c = coords m c := fun c => (hagree c).1
  have h1 : ∀ c, featsR m' c = feats m c := fun c => (hagree c).2
  have hfin : ∀ c b p q, dist (featsR m' c) b p q < ⊤ := fun c b p q =>
    dist_lt_top _ (by rw [h1 c]; exact isReal_of_pre _ _ (hpre c)) b p q
  refine ⟨fun c => W5 m c (Proc.devRef .tc Cert.KernelIdeal.main_v22), fun c => W5 m c (Proc.devRef .tc Cert.KernelIdeal.main_v21),
    fun c => m ((c.tc : Thread Cert.KernelIdeal.nD Cert.KernelIdeal.τ).loc Cert.KernelIdeal.main_arg0),
    fun c => W5 m c (Proc.devRef .tc Cert.KernelIdeal.main_v23), ?_, ?_⟩
  · exact (θ_run Cert.KernelIdeal.defs _ _).mono
      (fun _ h c => ⟨h.1 c Cert.KernelIdeal.main_v22 rfl, h.1 c Cert.KernelIdeal.main_v21 rfl,
        (h.1 c Cert.KernelIdeal.main_arg0 rfl).trans (W5_arg0 m c), h.1 c Cert.KernelIdeal.main_v23 rfl,
        (h.1 c Cert.KernelIdeal.main_arg0 rfl).trans (W5_arg0 m c),
        (h.1 c Cert.KernelIdeal.main_arg1 rfl).trans (W5_arg1 m c)⟩)
      (run_main m g (idxOf_inRange m))
  · exact (θ_run Cert.ReferenceIdeal.defs _ _).mono
      (fun _ h c => ⟨(h c).1.trans (equal_v22 m m' c (h0 c) (h1 c) (hfin c)).symm,
        (h c).2.1.trans (equal_v21 m m' c (h1 c) (hfin c)).symm,
        (h c).2.2.1.trans (hagree c).1,
        (h c).2.2.2.1.trans (equal_v23 m m' c (h1 c) (hfin c)).symm,
        (h c).2.2.2.2.1, (h c).2.2.2.2.2⟩)
      (Cert.ReferenceIdeal.Value.run m' g')

theorem claim : Cert.Claim :=
  ⟨Cert.KernelIdeal.Gen.facts, Cert.ReferenceIdeal.Gen.facts, Cert.Pre_finite_fts.Gen.facts,
    fun m g _ => frame_kernel m g, fun m g _ => frame_kernel m g, frame_reference, frame_reference_pre, equal_results⟩

end Cert.Proof

end
